-- ==== Defs.lean ====
def Pre_Kernel [hPre_pend_in_blocks : Cert.Pre_pend_in_blocks.Facts] (m : (ℓ : Loc Cert.Kernel.nD Cert.Kernel.τ Cert.Kernel.sig) → Buf (Elt Bits) ℓ) : Prop :=
  ∀ c : Dev Cert.Kernel.nD,
    (Cert.Pre_pend_in_blocks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pend_in_blocks : Cert.Pre_pend_in_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_pend_in_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pend_in_blocks [hPre_pend_in_blocks : Cert.Pre_pend_in_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pend_in_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_pend_in_blocks : Cert.Pre_pend_in_blocks.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pend_in_blocks : Cert.Pre_pend_in_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pend_in_blocks [hReferenceIdeal : Cert.ReferenceIdeal.Facts] [hPre_pend_in_blocks : Cert.Pre_pend_in_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pend_in_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pend_in_blocks : Cert.Pre_pend_in_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v83_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v83_1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_pend_in_blocks : Cert.Pre_pend_in_blocks.Facts),
    quiescent_Kernel (hKernel := hKernel) (hPre_pend_in_blocks := hPre_pend_in_blocks)
    ∧ quiescent_KernelIdeal (hKernelIdeal := hKernelIdeal) (hPre_pend_in_blocks := hPre_pend_in_blocks)
    ∧ quiescent_ReferenceIdeal (hReferenceIdeal := hReferenceIdeal)
    ∧ quiescent_ReferenceIdeal_pre_pend_in_blocks (hReferenceIdeal := hReferenceIdeal) (hPre_pend_in_blocks := hPre_pend_in_blocks)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_pend_in_blocks := hPre_pend_in_blocks)
    ∧ preserves_Kernel2_Kernel2Ideal
    ∧ algebraic_Kernel2Ideal_Reference2Ideal (hKernel2Ideal := hKernel2Ideal) (hReference2Ideal := hReference2Ideal)
-- ==== Pre_pend_in_blocks.lean ====
abbrev S32 : Shape := ⟨1, ![32]⟩
abbrev S99072x512 : Shape := ⟨2, ![99072, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S1 : Shape := ⟨1, ![1]⟩
abbrev S31 : Shape := ⟨1, ![31]⟩

class Facts : Prop where
  bcast_S_S1 : S_.BroadcastsInDim S1 (![] : Fin 0 → Fin S1.rank)
  slices_S32_S31_0 : S32.Slices ![0] S31
  concatenates_S1_S31_S32_d0 : Shape.Concatenates [S1, S31] S32 0
  bcast_S_S32 : S_.BroadcastsInDim S32 (![] : Fin 0 → Fin S32.rank)

variable [Facts]

def fn {F : FTy → Type} [FloatOps F] (main_arg0 : IVec S32 32) (main_arg1 : IVec S99072x512 32) (main_arg2 : FVec F S1x32x1024x2048 .f32) (main_arg3 : FVec F S1x32x2048 .f32) (main_arg4 : FVec F S1x32x1024x1024 .f32) (main_arg5 : FVec F S1x32x1024 .f32) : IVec S32 1 :=
  let main_c : IVec S_ 32 := constantI S_ 32 0#32
  let main_v0 : IVec S1 32 := broadcastInDim S1 ![] bcast_S_S1 main_c
  let main_v1 : IVec S31 32 := (extractStridedSlice S31 ![0] · slices_S32_S31_0) main_arg0
  let main_v2 : IVec S32 32 := (fun a b => concatenate S32 0 [⟨S1, a⟩, ⟨S31, b⟩] concatenates_S1_S31_S32_d0) main_v0 main_v1
  let main_v3 : IVec S32 1 := cmpi .sle main_v2 main_arg0
  let main_c_0 : IVec S_ 32 := constantI S_ 32 97792#32
  let main_v4 : IVec S32 32 := broadcastInDim S32 ![] bcast_S_S32 main_c_0
  let main_v5 : IVec S32 1 := cmpi .sle main_arg0 main_v4
  let main_v6 : IVec S32 1 := andi main_v3 main_v5
  let main_c_1 : IVec S_ 32 := constantI S_ 32 511#32
  let main_v7 : IVec S32 32 := broadcastInDim S32 ![] bcast_S_S32 main_c_1
  let main_v8 : IVec S32 32 := andi main_arg0 main_v7
  let main_c_2 : IVec S_ 32 := constantI S_ 32 0#32
  let main_v9 : IVec S32 32 := broadcastInDim S32 ![] bcast_S_S32 main_c_2
  let main_v10 : IVec S32 1 := cmpi .eq main_v8 main_v9
  let main_v11 : IVec S32 1 := andi main_v6 main_v10
  main_v11
-- ==== Kernel.lean ====
abbrev S32 : Shape := ⟨1, ![32]⟩
abbrev S99072x512 : Shape := ⟨2, ![99072, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S191 : Shape := ⟨1, ![191]⟩
abbrev S_ : Shape := ⟨0, ![]⟩
abbrev S191x1 : Shape := ⟨2, ![191, 1]⟩
abbrev S1x32 : Shape := ⟨2, ![1, 32]⟩
abbrev S191x32 : Shape := ⟨2, ![191, 32]⟩
abbrev S1 : Shape := ⟨1, ![1]⟩
abbrev S190 : Shape := ⟨1, ![190]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S97792x1024 : Shape := ⟨2, ![97792, 1024]⟩
abbrev S512x512 : Shape := ⟨2, ![512, 512]⟩
abbrev S1x1x2048 : Shape := ⟨3, ![1, 1, 2048]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S2 : Shape := ⟨1, ![2]⟩
abbrev S1x1024x2048 : Shape := ⟨3, ![1, 1024, 2048]⟩
abbrev S1x1024x1024 : Shape := ⟨3, ![1, 1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 114
  | .vmem => 12
  | .smem => 5
  | _ => 0

abbrev bufTy : (tb : Table) → Fin (tcTables nBuf tb) → BufTy
  | .hbm, ⟨0, _⟩ => ⟨S32, .i32⟩
  | .hbm, ⟨1, _⟩ => ⟨S99072x512, .i32⟩
  | .hbm, ⟨2, _⟩ => ⟨S1x32x1024x2048, .f32⟩
  | .hbm, ⟨3, _⟩ => ⟨S1x32x2048, .f32⟩
  | .hbm, ⟨4, _⟩ => ⟨S1x32x1024x1024, .f32⟩
  | .hbm, ⟨5, _⟩ => ⟨S1x32x1024, .f32⟩
  | .hbm, ⟨6, _⟩ => ⟨S191, .i32⟩
  | .hbm, ⟨7, _⟩ => ⟨S_, .i32⟩
  | .hbm, ⟨8, _⟩ => ⟨S191, .i32⟩
  | .hbm, ⟨9, _⟩ => ⟨S191, .i32⟩
  | .hbm, ⟨10, _⟩ => ⟨S191x1, .i32⟩
  | .hbm, ⟨11, _⟩ => ⟨S1x32, .i32⟩
  | .hbm, ⟨12, _⟩ => ⟨S191x32, .i32⟩
  | .hbm, ⟨13, _⟩ => ⟨S191x32, .i32⟩
  | .hbm, ⟨14, _⟩ => ⟨S191x32, .i1⟩
  | .hbm, ⟨15, _⟩ => ⟨S191x32, .i32⟩
  | .hbm, ⟨16, _⟩ => ⟨S_, .i32⟩
  | .hbm, ⟨17, _⟩ => ⟨S191, .i32⟩
  | .hbm, ⟨18, _⟩ => ⟨S_, .i32⟩
  | .hbm, ⟨19, _⟩ => ⟨S191, .i32⟩
  | .hbm, ⟨20, _⟩ => ⟨S_, .i32⟩
  | .hbm, ⟨21, _⟩ => ⟨S1, .i32⟩
  | .hbm, ⟨22, _⟩ => ⟨S190, .i32⟩
  | .hbm, ⟨23, _⟩ => ⟨S190, .i32⟩
  | .hbm, ⟨24, _⟩ => ⟨S190, .i1⟩
  | .hbm, ⟨25, _⟩ => ⟨S190, .i32⟩
  | .hbm, ⟨26, _⟩ => ⟨S191, .i32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S191, .i32⟩
  | .hbm, ⟨58, _⟩ => ⟨S191, .i32⟩
  | .hbm, ⟨59, _⟩ => ⟨S191, .i1⟩
  | .hbm, ⟨60, _⟩ => ⟨S_, .i32⟩
  | .hbm, ⟨61, _⟩ => ⟨S_, .i32⟩
  | .hbm, ⟨62, _⟩ => ⟨S191, .i32⟩
  | .hbm, ⟨63, _⟩ => ⟨S_, .i32⟩
  | .hbm, ⟨64, _⟩ => ⟨S191, .i32⟩
  | .hbm, ⟨65, _⟩ => ⟨S191, .i1⟩
  | .hbm, ⟨66, _⟩ => ⟨S_, .i32⟩
  | .hbm, ⟨67, _⟩ => ⟨S191, .i32⟩
  | .hbm, ⟨68, _⟩ => ⟨S191, .i32⟩
  | .hbm, ⟨69, _⟩ => ⟨S191, .i32⟩
  | .hbm, ⟨70, _⟩ => ⟨S191x1, .i32⟩
  | .hbm, ⟨71, _⟩ => ⟨S191, .i32⟩
  | .hbm, ⟨72, _⟩ => ⟨S_, .i32⟩
  | .hbm, ⟨73, _⟩ => ⟨S_, .i32⟩
  | .hbm, ⟨74, _⟩ => ⟨S191, .i32⟩
  | .hbm, ⟨75, _⟩ => ⟨S191, .i32⟩
  | .hbm, ⟨76, _⟩ => ⟨S191, .i32⟩
  | .hbm, ⟨77, _⟩ => ⟨S_, .i32⟩
  | .hbm, ⟨78, _⟩ => ⟨S191, .i32⟩
  | .hbm, ⟨79, _⟩ => ⟨S191, .i1⟩
  | .hbm, ⟨80, _⟩ => ⟨S191, .i32⟩
  | .hbm, ⟨81, _⟩ => ⟨S191, .i32⟩
  | .hbm, ⟨82, _⟩ => ⟨S_, .i32⟩
  | .hbm, ⟨83, _⟩ => ⟨S191, .i32⟩
  | .hbm, ⟨84, _⟩ => ⟨S191, .i1⟩
  | .hbm, ⟨85, _⟩ => ⟨S191, .i1⟩
  | .hbm, ⟨86, _⟩ => ⟨S_, .i32⟩
  | .hbm, ⟨87, _⟩ => ⟨S191, .i32⟩
  | .hbm, ⟨88, _⟩ => ⟨S191, .i32⟩
  | .hbm, ⟨89, _⟩ => ⟨S191, .i32⟩
  | .hbm, ⟨90, _⟩ => ⟨S_, .i32⟩
  | .hbm, ⟨91, _⟩ => ⟨S191, .i32⟩
  | .hbm, ⟨92, _⟩ => ⟨S191, .i1⟩
  | .hbm, ⟨93, _⟩ => ⟨S191, .i32⟩
  | .hbm, ⟨94, _⟩ => ⟨S191, .i1⟩
  | .hbm, ⟨95, _⟩ => ⟨S191, .i1⟩
  | .hbm, ⟨96, _⟩ => ⟨S_, .i32⟩
  | .hbm, ⟨97, _⟩ => ⟨S191, .i32⟩
  | .hbm, ⟨98, _⟩ => ⟨S191, .i32⟩
  | .hbm, ⟨99, _⟩ => ⟨S_, .i32⟩
  | .hbm, ⟨100, _⟩ => ⟨S191, .i32⟩
  | .hbm, ⟨101, _⟩ => ⟨S191, .i1⟩
  | .hbm, ⟨102, _⟩ => ⟨S_, .i32⟩
  | .hbm, ⟨103, _⟩ => ⟨S191, .i32⟩
  | .hbm, ⟨104, _⟩ => ⟨S191, .i32⟩
  | .hbm, ⟨105, _⟩ => ⟨S191, .i32⟩
  | .hbm, ⟨106, _⟩ => ⟨S191x1, .i32⟩
  | .hbm, ⟨107, _⟩ => ⟨S32x1024x2048, .f32⟩
  | .hbm, ⟨108, _⟩ => ⟨S32x2048, .f32⟩
  | .hbm, ⟨109, _⟩ => ⟨S32x1024x1024, .f32⟩
  | .hbm, ⟨110, _⟩ => ⟨S32x1024, .f32⟩
  | .hbm, ⟨111, _⟩ => ⟨S32x1x2048, .f32⟩
  | .hbm, ⟨112, _⟩ => ⟨S32x1x1024, .f32⟩
  | .hbm, ⟨113, _⟩ => ⟨S97792x1024, .f32⟩
  | .local _ .vmem, ⟨0, _⟩ => ⟨S512x512, .i32⟩
  | .local _ .vmem, ⟨1, _⟩ => ⟨S512x512, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S1024x1024, .bf16⟩
  | .local _ .vmem, ⟨10, _⟩ => ⟨S1024x2048, .f32⟩
  | .local _ .vmem, ⟨11, _⟩ => ⟨S1024x1024, .f32⟩
  | .local _ .smem, ⟨0, _⟩ => ⟨S191, .i32⟩
  | .local _ .smem, ⟨1, _⟩ => ⟨S191, .i32⟩
  | .local _ .smem, ⟨2, _⟩ => ⟨S1, .i32⟩
  | .local _ .smem, ⟨3, _⟩ => ⟨S191, .i32⟩
  | .local _ .smem, ⟨4, _⟩ => ⟨S191, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c : Ref sig .tc := ⟨.hbm, 36, rfl⟩
abbrev main_call0_v6 : Ref sig .tc := ⟨.hbm, 37, rfl⟩
abbrev main_call0_v7 : Ref sig .tc := ⟨.hbm, 38, rfl⟩
abbrev main_call0_c_0 : Ref sig .tc := ⟨.hbm, 39, rfl⟩
abbrev main_call0_v8 : Ref sig .tc := ⟨.hbm, 40, rfl⟩
abbrev main_v20 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c : Ref sig .tc := ⟨.hbm, 51, rfl⟩
abbrev main_call1_v6 : Ref sig .tc := ⟨.hbm, 52, rfl⟩
abbrev main_call1_v7 : Ref sig .tc := ⟨.hbm, 53, rfl⟩
abbrev main_call1_c_0 : Ref sig .tc := ⟨.hbm, 54, rfl⟩
abbrev main_call1_v8 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v36 : Ref sig .tc := ⟨.hbm, 89, rfl⟩
abbrev main_c_9 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_10 : Ref sig .tc := ⟨.hbm, 96, rfl⟩
abbrev main_v43 : Ref sig .tc := ⟨.hbm, 97, rfl⟩
abbrev main_v44 : Ref sig .tc := ⟨.hbm, 98, rfl⟩
abbrev main_c_11 : Ref sig .tc := ⟨.hbm, 99, rfl⟩
abbrev main_v45 : Ref sig .tc := ⟨.hbm, 100, rfl⟩
abbrev main_v46 : Ref sig .tc := ⟨.hbm, 101, rfl⟩
abbrev main_c_12 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v11 : Ref sig .tc := ⟨.smem, 0, rfl⟩
abbrev main_v28 : Ref sig .tc := ⟨.smem, 1, rfl⟩
abbrev main_v21 : Ref sig .tc := ⟨.smem, 2, rfl⟩
abbrev main_v51 : Ref sig .tc := ⟨.smem, 3, rfl⟩
abbrev main_v42 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![191], ![false]⟩

abbrev pre0 : Pipeline.Prefetch sig := ⟨5, ![main_v11.idx, main_v28.idx, main_v21.idx, main_v51.idx, main_v42.idx], fun | 0 => main_v11.names | 1 => main_v28.names | 2 => main_v21.names | 3 => main_v51.names | 4 => main_v42.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c0_i32_3 : BitVec 32 := 0#32
  let v13 : BitVec 1 := Scalar.cmpi .eq arg0 c0_i32_3
  let v14 : BitVec 32 := Scalar.extui v13
  let c0_i32_4 : BitVec 32 := 0#32
  let v15 : BitVec 1 := Scalar.cmpi .ne v14 c0_i32_4
  v15

def k0_off2 (v41 : BitVec 32) : Fin 3 → Nat :=
  let c0_i32_23 : BitVec 32 := 0#32
  let c0_i32_24 : BitVec 32 := 0#32
  ![v41.toNat, 0, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off3 (v41 : BitVec 32) : Fin 3 → Nat :=
  let c0_i32_26 : BitVec 32 := 0#32
  let c0_i32_27 : BitVec 32 := 0#32
  ![v41.toNat, 0, 0]

def k0_chk1 (i : grid0.Coords) (v1 : BitVec 32) (v41 : BitVec 32) : Prop :=
  (∀ (k0_h1 : k0_cond1 v1 = 1#1), ∀ (k0_h2 : k0_cond2 i = 1#1), ∀ a, (k0_off2 v41) a + S1x1024x2048.size a ≤ S32x1024x2048.size a) ∧
  (∀ (k0_h1 : k0_cond1 v1 = 1#1), ∀ (k0_h2 : k0_cond2 i = 1#1), ∀ a, (k0_off3 v41) a + S1x1024x1024.size a ≤ S32x1024x1024.size a)
theorem k0_off2_inb : ∀ (i : grid0.Coords) (v1 : BitVec 32) (v41 : BitVec 32) (k0_hw1 : k0_chk1 i v1 v41), ∀ (k0_h1 : k0_cond1 v1 = 1#1), ∀ (k0_h2 : k0_cond2 i = 1#1), ∀ a, (k0_off2 v41) a + S1x1024x2048.size a ≤ S32x1024x2048.size a := fun i v1 v41 k0_hw1 k0_h1 k0_h2 => k0_hw1.1 k0_h1 k0_h2
theorem k0_off3_inb : ∀ (i : grid0.Coords) (v1 : BitVec 32) (v41 : BitVec 32) (k0_hw1 : k0_chk1 i v1 v41), ∀ (k0_h1 : k0_cond1 v1 = 1#1), ∀ (k0_h2 : k0_cond2 i = 1#1), ∀ a, (k0_off3 v41) a + S1x1024x1024.size a ≤ S32x1024x1024.size a := fun i v1 v41 k0_hw1 k0_h1 k0_h2 => k0_hw1.2 k0_h1 k0_h2

def k0_off4 (i : grid0.Coords) : Fin 1 → Nat :=
  let arg0 : BitVec 32 := BitVec.ofNat 32 (i 0).val
  let v16 : Index := Scalar.indexCast arg0
  ![v16.toNat]
def k0_off5 (v17 : BitVec 32) : Fin 3 → Nat :=
  let c0_i32_6 : BitVec 32 := 0#32
  let c0_i32_7 : BitVec 32 := 0#32
  ![v17.toNat, 0, 0]

def k0_off6 (v17 : BitVec 32) : Fin 3 → Nat :=
  let c0_i32_9 : BitVec 32 := 0#32
  let c0_i32_10 : BitVec 32 := 0#32
  ![v17.toNat, 0, 0]

def k0_chk2 (v1 : BitVec 32) (v17 : BitVec 32) : Prop :=
  (∀ (k0_h1 : k0_cond1 v1 = 1#1), ∀ a, (k0_off5 v17) a + S1x1024x2048.size a ≤ S32x1024x2048.size a) ∧
  (∀ (k0_h1 : k0_cond1 v1 = 1#1), ∀ a, (k0_off6 v17) a + S1x1024x1024.size a ≤ S32x1024x1024.size a)
theorem k0_off5_inb : ∀ (v1 : BitVec 32) (v17 : BitVec 32) (k0_hw2 : k0_chk2 v1 v17), ∀ (k0_h1 : k0_cond1 v1 = 1#1), ∀ a, (k0_off5 v17) a + S1x1024x2048.size a ≤ S32x1024x2048.size a := fun v1 v17 k0_hw2 k0_h1 => k0_hw2.1 k0_h1
theorem k0_off6_inb : ∀ (v1 : BitVec 32) (v17 : BitVec 32) (k0_hw2 : k0_chk2 v1 v17), ∀ (k0_h1 : k0_cond1 v1 = 1#1), ∀ a, (k0_off6 v17) a + S1x1024x1024.size a ≤ S32x1024x1024.size a := fun v1 v17 k0_hw2 k0_h1 => k0_hw2.2 k0_h1

def k0_off7 (i : grid0.Coords) : Fin 1 → Nat :=
  let arg0 : BitVec 32 := BitVec.ofNat 32 (i 0).val
  let v36 : Index := Scalar.indexCast arg0
  ![v36.toNat]
def k0_off8 (i : grid0.Coords) : Fin 1 → Nat :=
  let arg0 : BitVec 32 := BitVec.ofNat 32 (i 0).val
  let v41 : Index := Scalar.indexCast arg0
  ![v41.toNat]
def k0_off9 (v42 : BitVec 32) : Fin 3 → Nat :=
  let c0_i32_22 : BitVec 32 := 0#32
  let c0_i32_23 : BitVec 32 := 0#32
  ![v42.toNat, 0, 0]
def k0_cond3 (v37 : BitVec 32) : BitVec 1 :=
  let c1_i32_19 : BitVec 32 := 1#32
  let v38 : BitVec 1 := Scalar.cmpi .eq v37 c1_i32_19
  let v39 : BitVec 32 := Scalar.extui v38
  let c0_i32_20 : BitVec 32 := 0#32
  let v40 : BitVec 1 := Scalar.cmpi .ne v39 c0_i32_20
  v40

def k0_off10 (v42 : BitVec 32) : Fin 3 → Nat :=
  let c0_i32_25 : BitVec 32 := 0#32
  let c0_i32_26 : BitVec 32 := 0#32
  ![v42.toNat, 0, 0]

def k0_chk3 (v1 : BitVec 32) (v37 : BitVec 32) (v42 : BitVec 32) : Prop :=
  (∀ (k0_h1 : k0_cond1 v1 = 1#1), ∀ (k0_h3 : k0_cond3 v37 = 1#1), ∀ a, (k0_off9 v42) a + S1x1024x2048.size a ≤ S32x1024x2048.size a) ∧
  (∀ (k0_h1 : k0_cond1 v1 = 1#1), ∀ (k0_h3 : k0_cond3 v37 = 1#1), ∀ a, (k0_off10 v42) a + S1x1024x1024.size a ≤ S32x1024x1024.size a)
theorem k0_off9_inb : ∀ (v1 : BitVec 32) (v37 : BitVec 32) (v42 : BitVec 32) (k0_hw3 : k0_chk3 v1 v37 v42), ∀ (k0_h1 : k0_cond1 v1 = 1#1), ∀ (k0_h3 : k0_cond3 v37 = 1#1), ∀ a, (k0_off9 v42) a + S1x1024x2048.size a ≤ S32x1024x2048.size a := fun v1 v37 v42 k0_hw3 k0_h1 k0_h3 => k0_hw3.1 k0_h1 k0_h3
theorem k0_off10_inb : ∀ (v1 : BitVec 32) (v37 : BitVec 32) (v42 : BitVec 32) (k0_hw3 : k0_chk3 v1 v37 v42), ∀ (k0_h1 : k0_cond1 v1 = 1#1), ∀ (k0_h3 : k0_cond3 v37 = 1#1), ∀ a, (k0_off10 v42) a + S1x1024x1024.size a ≤ S32x1024x1024.size a := fun v1 v37 v42 k0_hw3 k0_h1 k0_h3 => k0_hw3.2 k0_h1 k0_h3

def k0_cond4 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond5 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32 : Shape := ⟨1, ![32]⟩
abbrev S99072x512 : Shape := ⟨2, ![99072, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S97792x512 : Shape := ⟨2, ![97792, 512]⟩
abbrev S_ : Shape := ⟨0, ![]⟩
abbrev S97792x1024 : Shape := ⟨2, ![97792, 1024]⟩
abbrev S191 : Shape := ⟨1, ![191]⟩
abbrev S1x32 : Shape := ⟨2, ![1, 32]⟩
abbrev S191x1 : Shape := ⟨2, ![191, 1]⟩
abbrev S191x32 : Shape := ⟨2, ![191, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S191x512x1024 : Shape := ⟨3, ![191, 512, 1024]⟩
abbrev S191x3 : Shape := ⟨2, ![191, 3]⟩
abbrev S191x1x1024x2048 : Shape := ⟨4, ![191, 1, 1024, 2048]⟩
abbrev S191x1024x2048 : Shape := ⟨3, ![191, 1024, 2048]⟩
abbrev S191x512x2048 : Shape := ⟨3, ![191, 512, 2048]⟩
abbrev S191x2 : Shape := ⟨2, ![191, 2]⟩
abbrev S191x1x2048 : Shape := ⟨3, ![191, 1, 2048]⟩
abbrev S191x2048 : Shape := ⟨2, ![191, 2048]⟩
abbrev S191x1x1024x1024 : Shape := ⟨4, ![191, 1, 1024, 1024]⟩
abbrev S191x1024x1024 : Shape := ⟨3, ![191, 1024, 1024]⟩
abbrev S191x1x1024 : Shape := ⟨3, ![191, 1, 1024]⟩
abbrev S191x1024 : Shape := ⟨2, ![191, 1024]⟩
abbrev S97792 : Shape := ⟨1, ![97792]⟩
abbrev S97792x1 : Shape := ⟨2, ![97792, 1]⟩
abbrev S1 : Shape := ⟨1, ![1]⟩

abbrev nBuf : Space → Nat
  | .hbm => 183
  | .vmem => 0
  | .smem => 0
  | _ => 0

abbrev hbmTy0_0 (i : Nat) : BufTy := match i % 128 with
  | 0 => ⟨S32, .i32⟩
  | 1 => ⟨S99072x512, .i32⟩
  | 2 => ⟨S1x32x1024x2048, .f32⟩
  | 3 => ⟨S1x32x2048, .f32⟩
  | 4 => ⟨S1x32x1024x1024, .f32⟩
  | 5 => ⟨S1x32x1024, .f32⟩
  | 6 => ⟨S97792x512, .i32⟩
  | 7 => ⟨S_, .i32⟩
  | 8 => ⟨S97792x512, .i32⟩
  | 9 => ⟨S97792x512, .i32⟩
  | 10 => ⟨S97792x512, .f32⟩
  | 11 => ⟨S_, .i32⟩
  | 12 => ⟨S97792x512, .i32⟩
  | 13 => ⟨S97792x512, .i32⟩
  | 14 => ⟨S97792x512, .f32⟩
  | 15 => ⟨S97792x1024, .f32⟩
  | 16 => ⟨S191, .i32⟩
  | 17 => ⟨S_, .i32⟩
  | 18 => ⟨S191, .i32⟩
  | 19 => ⟨S191, .i32⟩
  | 20 => ⟨S1x32, .i32⟩
  | 21 => ⟨S191x1, .i32⟩
  | 22 => ⟨S191x32, .i32⟩
  | 23 => ⟨S191x32, .i32⟩
  | 24 => ⟨S191x32, .i1⟩
  | 25 => ⟨S191x32, .i32⟩
  | 26 => ⟨S_, .i32⟩
  | 27 => ⟨S191, .i32⟩
  | 28 => ⟨S_, .i32⟩
  | 29 => ⟨S191, .i32⟩
  | 30 => ⟨S191, .i32⟩
  | 31 => ⟨S32x1024x2048, .f32⟩
  | 32 => ⟨S32x2048, .f32⟩
  | 33 => ⟨S32x1024x1024, .f32⟩
  | 34 => ⟨S32x1024, .f32⟩
  | 35 => ⟨S191x512x1024, .f32⟩
  | 36 => ⟨S_, .i32⟩
  | 37 => ⟨S191, .i32⟩
  | 38 => ⟨S191, .i1⟩
  | 39 => ⟨S_, .i32⟩
  | 40 => ⟨S191, .i32⟩
  | 41 => ⟨S191, .i32⟩
  | 42 => ⟨S191, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S191x1, .i32⟩
  | 60 => ⟨S191x1, .i32⟩
  | 61 => ⟨S191x1, .i32⟩
  | 62 => ⟨S191x3, .i32⟩
  | 63 => ⟨S191x1x1024x2048, .f32⟩
  | 64 => ⟨S191x1024x2048, .f32⟩
  | 65 => ⟨S191x512x2048, .f32⟩
  | 66 => ⟨S_, .i32⟩
  | 67 => ⟨S191, .i32⟩
  | 68 => ⟨S191, .i1⟩
  | 69 => ⟨S_, .i32⟩
  | 70 => ⟨S191, .i32⟩
  | 71 => ⟨S191, .i32⟩
  | 72 => ⟨S191, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S191x1, .i32⟩
  | 82 => ⟨S191x1, .i32⟩
  | 83 => ⟨S191x2, .i32⟩
  | 84 => ⟨S191x1x2048, .f32⟩
  | 85 => ⟨S191x2048, .f32⟩
  | 86 => ⟨S191x1x2048, .f32⟩
  | 87 => ⟨S191x512x2048, .f32⟩
  | 88 => ⟨S191x512x2048, .f32⟩
  | 89 => ⟨S191x512x1024, .f32⟩
  | 90 => ⟨S_, .f32⟩
  | 91 => ⟨S191x512x1024, .f32⟩
  | 92 => ⟨S191x512x1024, .f32⟩
  | 93 => ⟨S191x512x1024, .f32⟩
  | 94 => ⟨S_, .f32⟩
  | 95 => ⟨S_, .f32⟩
  | 96 => ⟨S_, .f32⟩
  | 97 => ⟨S191x512x1024, .f32⟩
  | 98 => ⟨S191x512x1024, .f32⟩
  | 99 => ⟨S_, .f32⟩
  | 100 => ⟨S191x512x1024, .f32⟩
  | 101 => ⟨S191x512x1024, .f32⟩
  | 102 => ⟨S_, .f32⟩
  | 103 => ⟨S191x512x1024, .f32⟩
  | 104 => ⟨S191x512x1024, .f32⟩
  | 105 => ⟨S_, .f32⟩
  | 106 => ⟨S191x512x1024, .f32⟩
  | 107 => ⟨S191x512x1024, .f32⟩
  | 108 => ⟨S191x512x1024, .f32⟩
  | 109 => ⟨S191x512x1024, .f32⟩
  | 110 => ⟨S_, .f32⟩
  | 111 => ⟨S191x512x1024, .f32⟩
  | 112 => ⟨S191x512x1024, .f32⟩
  | 113 => ⟨S_, .f32⟩
  | 114 => ⟨S191x512x1024, .f32⟩
  | 115 => ⟨S191x512x1024, .f32⟩
  | 116 => ⟨S191x512x1024, .f32⟩
  | 117 => ⟨S191x512x1024, .f32⟩
  | 118 => ⟨S_, .i32⟩
  | 119 => ⟨S191, .i32⟩
  | 120 => ⟨S191, .i1⟩
  | 121 => ⟨S_, .i32⟩
  | 122 => ⟨S191, .i32⟩
  | 123 => ⟨S191, .i32⟩
  | 124 => ⟨S191, .i32⟩
  | 125 => ⟨S_, .i32⟩
  | 126 => ⟨S_, .i32⟩
  | 127 => ⟨S_, .i1⟩
  | _ => ⟨S32, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S191x1, .i32⟩
  | 14 => ⟨S191x1, .i32⟩
  | 15 => ⟨S191x1, .i32⟩
  | 16 => ⟨S191x3, .i32⟩
  | 17 => ⟨S191x1x1024x1024, .f32⟩
  | 18 => ⟨S191x1024x1024, .f32⟩
  | 19 => ⟨S191x512x1024, .f32⟩
  | 20 => ⟨S_, .i32⟩
  | 21 => ⟨S191, .i32⟩
  | 22 => ⟨S191, .i1⟩
  | 23 => ⟨S_, .i32⟩
  | 24 => ⟨S191, .i32⟩
  | 25 => ⟨S191, .i32⟩
  | 26 => ⟨S191, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S191x1, .i32⟩
  | 36 => ⟨S191x1, .i32⟩
  | 37 => ⟨S191x2, .i32⟩
  | 38 => ⟨S191x1x1024, .f32⟩
  | 39 => ⟨S191x1024, .f32⟩
  | 40 => ⟨S191x1x1024, .f32⟩
  | 41 => ⟨S191x512x1024, .f32⟩
  | 42 => ⟨S191x512x1024, .f32⟩
  | 43 => ⟨S97792x1024, .f32⟩
  | 44 => ⟨S97792, .i32⟩
  | 45 => ⟨S97792x1, .i32⟩
  | 46 => ⟨S1, .i32⟩
  | 47 => ⟨S_, .i32⟩
  | 48 => ⟨S97792x1, .i32⟩
  | 49 => ⟨S97792x1, .i1⟩
  | 50 => ⟨S_, .f32⟩
  | 51 => ⟨S_, .f32⟩
  | 52 => ⟨S97792x1024, .i1⟩
  | 53 => ⟨S97792x1024, .f32⟩
  | 54 => ⟨S97792x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_c_7 : Ref sig .tc := ⟨.hbm, 44, rfl⟩
abbrev main_v30 : Ref sig .tc := ⟨.hbm, 45, rfl⟩
abbrev main_c_8 : Ref sig .tc := ⟨.hbm, 46, rfl⟩
abbrev main_c_9 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_c_11 : Ref sig .tc := ⟨.hbm, 51, rfl⟩
abbrev main_c_12 : Ref sig .tc := ⟨.hbm, 52, rfl⟩
abbrev main_v33 : Ref sig .tc := ⟨.hbm, 53, rfl⟩
abbrev main_c_13 : Ref sig .tc := ⟨.hbm, 54, rfl⟩
abbrev main_c_14 : Ref sig .tc := ⟨.hbm, 55, rfl⟩
abbrev main_v34 : Ref sig .tc := ⟨.hbm, 56, rfl⟩
abbrev main_c_15 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_16 : Ref sig .tc := ⟨.hbm, 66, rfl⟩
abbrev main_v43 : Ref sig .tc := ⟨.hbm, 67, rfl⟩
abbrev main_v44 : Ref sig .tc := ⟨.hbm, 68, rfl⟩
abbrev main_c_17 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_18 : Ref sig .tc := ⟨.hbm, 73, rfl⟩
abbrev main_c_19 : Ref sig .tc := ⟨.hbm, 74, rfl⟩
abbrev main_v48 : Ref sig .tc := ⟨.hbm, 75, rfl⟩
abbrev main_c_20 : Ref sig .tc := ⟨.hbm, 76, rfl⟩
abbrev main_c_21 : Ref sig .tc := ⟨.hbm, 77, rfl⟩
abbrev main_v49 : Ref sig .tc := ⟨.hbm, 78, rfl⟩
abbrev main_c_22 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_23 : Ref sig .tc := ⟨.hbm, 94, rfl⟩
abbrev main_cst_24 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_cst_26 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_cst_28 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_29 : Ref sig .tc := ⟨.hbm, 118, rfl⟩
abbrev main_v76 : Ref sig .tc := ⟨.hbm, 119, rfl⟩
abbrev main_v77 : Ref sig .tc := ⟨.hbm, 120, rfl⟩
abbrev main_c_30 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_31 : Ref sig .tc := ⟨.hbm, 125, rfl⟩
abbrev main_c_32 : Ref sig .tc := ⟨.hbm, 126, rfl⟩
abbrev main_v81 : Ref sig .tc := ⟨.hbm, 127, rfl⟩
abbrev main_c_33 : Ref sig .tc := ⟨.hbm, 128, rfl⟩
abbrev main_c_34 : Ref sig .tc := ⟨.hbm, 129, rfl⟩
abbrev main_v82 : Ref sig .tc := ⟨.hbm, 130, rfl⟩
abbrev main_c_35 : Ref sig .tc := ⟨.hbm, 131, rfl⟩
abbrev main_v83 : Ref sig .tc := ⟨.hbm, 132, rfl⟩
abbrev main_c_36 : Ref sig .tc := ⟨.hbm, 133, rfl⟩
abbrev main_c_37 : Ref sig .tc := ⟨.hbm, 134, rfl⟩
abbrev main_v84 : Ref sig .tc := ⟨.hbm, 135, rfl⟩
abbrev main_c_38 : Ref sig .tc := ⟨.hbm, 136, rfl⟩
abbrev main_c_39 : Ref sig .tc := ⟨.hbm, 137, rfl⟩
abbrev main_v85 : Ref sig .tc := ⟨.hbm, 138, rfl⟩
abbrev main_c_40 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_41 : Ref sig .tc := ⟨.hbm, 148, rfl⟩
abbrev main_v94 : Ref sig .tc := ⟨.hbm, 149, rfl⟩
abbrev main_v95 : Ref sig .tc := ⟨.hbm, 150, rfl⟩
abbrev main_c_42 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_43 : Ref sig .tc := ⟨.hbm, 155, rfl⟩
abbrev main_c_44 : Ref sig .tc := ⟨.hbm, 156, rfl⟩
abbrev main_v99 : Ref sig .tc := ⟨.hbm, 157, rfl⟩
abbrev main_c_45 : Ref sig .tc := ⟨.hbm, 158, rfl⟩
abbrev main_c_46 : Ref sig .tc := ⟨.hbm, 159, rfl⟩
abbrev main_v100 : Ref sig .tc := ⟨.hbm, 160, rfl⟩
abbrev main_c_47 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_48 : Ref sig .tc := ⟨.hbm, 178, rfl⟩
abbrev main_call1_v0 : Ref sig .tc := ⟨.hbm, 179, rfl⟩
abbrev main_call1_v1 : Ref sig .tc := ⟨.hbm, 180, rfl⟩
abbrev main_call1_v2 : Ref sig .tc := ⟨.hbm, 181, rfl⟩
abbrev main_v117 : Ref sig .tc := ⟨.hbm, 182, rfl⟩

abbrev nD : Nat := 1
abbrev τ : Topo := Topo.v7x

variable {F : FTy → Type} [FloatOps F]
-- ==== Kernel2.lean ====
abbrev S32x8x8x64 : Shape := ⟨4, ![32, 8, 8, 64]⟩
abbrev S32x8x8x128 : Shape := ⟨4, ![32, 8, 8, 128]⟩
abbrev S32x8x1024 : Shape := ⟨3, ![32, 8, 1024]⟩
abbrev S1x32x8x64x128 : Shape := ⟨5, ![1, 32, 8, 64, 128]⟩
abbrev S256x512 : Shape := ⟨2, ![256, 512]⟩
abbrev S32x8x512 : Shape := ⟨3, ![32, 8, 512]⟩
abbrev S_ : Shape := ⟨0, ![]⟩
abbrev S32x128x512 : Shape := ⟨3, ![32, 128, 512]⟩
abbrev S4096x512 : Shape := ⟨2, ![4096, 512]⟩
abbrev S256x1024 : Shape := ⟨2, ![256, 1024]⟩
abbrev S32x128x1024 : Shape := ⟨3, ![32, 128, 1024]⟩
abbrev S4096x1024 : Shape := ⟨2, ![4096, 1024]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S128x8x64 : Shape := ⟨3, ![128, 8, 64]⟩
abbrev S128x512 : Shape := ⟨2, ![128, 512]⟩
abbrev S8x64 : Shape := ⟨2, ![8, 64]⟩
abbrev S512 : Shape := ⟨1, ![512]⟩
abbrev S4x128x1 : Shape := ⟨3, ![4, 128, 1]⟩
abbrev S4x128x128 : Shape := ⟨3, ![4, 128, 128]⟩
abbrev S32x8x64x128 : Shape := ⟨4, ![32, 8, 64, 128]⟩
abbrev S32x4x128x128 : Shape := ⟨4, ![32, 4, 128, 128]⟩
abbrev S128x1024 : Shape := ⟨2, ![128, 1024]⟩
abbrev S1x4x128x128 : Shape := ⟨4, ![1, 4, 128, 128]⟩

abbrev nBuf : Space → Nat
  | .hbm => 113
  | .vmem => 19
  | .smem => 0
  | _ => 0

abbrev bufTy : (tb : Table) → Fin (tcTables nBuf tb) → BufTy
  | .hbm, ⟨0, _⟩ => ⟨S32x8x8x64, .f32⟩
  | .hbm, ⟨1, _⟩ => ⟨S32x8x8x64, .f32⟩
  | .hbm, ⟨2, _⟩ => ⟨S32x8x8x128, .f32⟩
  | .hbm, ⟨3, _⟩ => ⟨S32x8x1024, .f32⟩
  | .hbm, ⟨4, _⟩ => ⟨S1x32x8x64x128, .f32⟩
  | .hbm, ⟨5, _⟩ => ⟨S256x512, .f32⟩
  | .hbm, ⟨6, _⟩ => ⟨S256x512, .bf16⟩
  | .hbm, ⟨7, _⟩ => ⟨S32x8x512, .bf16⟩
  | .hbm, ⟨8, _⟩ => ⟨S_, .i32⟩
  | .hbm, ⟨9, _⟩ => ⟨S_, .bf16⟩
  | .hbm, ⟨10, _⟩ => ⟨S32x128x512, .bf16⟩
  | .hbm, ⟨11, _⟩ => ⟨S4096x512, .bf16⟩
  | .hbm, ⟨12, _⟩ => ⟨S_, .f32⟩
  | .hbm, ⟨13, _⟩ => ⟨S32x8x8x64, .f32⟩
  | .hbm, ⟨14, _⟩ => ⟨S32x8x8x64, .f32⟩
  | .hbm, ⟨15, _⟩ => ⟨S256x512, .f32⟩
  | .hbm, ⟨16, _⟩ => ⟨S256x512, .bf16⟩
  | .hbm, ⟨17, _⟩ => ⟨S32x8x512, .bf16⟩
  | .hbm, ⟨18, _⟩ => ⟨S_, .i32⟩
  | .hbm, ⟨19, _⟩ => ⟨S_, .bf16⟩
  | .hbm, ⟨20, _⟩ => ⟨S32x128x512, .bf16⟩
  | .hbm, ⟨21, _⟩ => ⟨S4096x512, .bf16⟩
  | .hbm, ⟨22, _⟩ => ⟨S256x1024, .f32⟩
  | .hbm, ⟨23, _⟩ => ⟨S256x1024, .bf16⟩
  | .hbm, ⟨24, _⟩ => ⟨S32x8x1024, .bf16⟩
  | .hbm, ⟨25, _⟩ => ⟨S_, .i32⟩
  | .hbm, ⟨26, _⟩ => ⟨S_, .bf16⟩
  | .hbm, ⟨27, _⟩ => ⟨S32x128x1024, .bf16⟩
  | .hbm, ⟨28, _⟩ => ⟨S4096x1024, .bf16⟩
  | .hbm, ⟨29, _⟩ => ⟨S32x8x1024, .f32⟩
  | .hbm, ⟨30, _⟩ => ⟨S32x8x1024, .f32⟩
  | .hbm, ⟨31, _⟩ => ⟨S_, .f32⟩
  | .hbm, ⟨32, _⟩ => ⟨S32x8x1024, .f32⟩
  | .hbm, ⟨33, _⟩ => ⟨S32x8x1024, .f32⟩
  | .hbm, ⟨34, _⟩ => ⟨S_, .f32⟩
  | .hbm, ⟨35, _⟩ => ⟨S32x8x1024, .f32⟩
  | .hbm, ⟨36, _⟩ => ⟨S32x8x1024, .f32⟩
  | .hbm, ⟨37, _⟩ => ⟨S32x8x1024, .f32⟩
  | .hbm, ⟨38, _⟩ => ⟨S256x1024, .f32⟩
  | .hbm, ⟨39, _⟩ => ⟨S256x1024, .bf16⟩
  | .hbm, ⟨40, _⟩ => ⟨S32x8x1024, .bf16⟩
  | .hbm, ⟨41, _⟩ => ⟨S_, .i32⟩
  | .hbm, ⟨42, _⟩ => ⟨S_, .bf16⟩
  | .hbm, ⟨43, _⟩ => ⟨S32x128x1024, .bf16⟩
  | .hbm, ⟨44, _⟩ => ⟨S4096x1024, .bf16⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S128, .f32⟩
  | .hbm, ⟨57, _⟩ => ⟨S128x1, .f32⟩
  | .hbm, ⟨58, _⟩ => ⟨S1x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S_, .f32⟩
  | .hbm, ⟨63, _⟩ => ⟨S128x128, .f32⟩
  | .hbm, ⟨64, _⟩ => ⟨S128x128, .i1⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S8x1x1, .f32⟩
  | .hbm, ⟨70, _⟩ => ⟨S8x128x128, .f32⟩
  | .hbm, ⟨71, _⟩ => ⟨S8x128x128, .f32⟩
  | .hbm, ⟨72, _⟩ => ⟨S8x128x128, .f32⟩
  | .hbm, ⟨73, _⟩ => ⟨S8x128x128, .f32⟩
  | .hbm, ⟨74, _⟩ => ⟨S_, .f32⟩
  | .hbm, ⟨75, _⟩ => ⟨S_, .f32⟩
  | .hbm, ⟨76, _⟩ => ⟨S8x128x128, .i1⟩
  | .hbm, ⟨77, _⟩ => ⟨S8x128x128, .f32⟩
  | .hbm, ⟨78, _⟩ => ⟨S8x128x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128x1, .f32⟩
  | .hbm, ⟨83, _⟩ => ⟨S1x8, .f32⟩
  | .hbm, ⟨84, _⟩ => ⟨S128x8, .f32⟩
  | .hbm, ⟨85, _⟩ => ⟨S128x8, .f32⟩
  | .hbm, ⟨86, _⟩ => ⟨S128x8, .f32⟩
  | .hbm, ⟨87, _⟩ => ⟨S128x8, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128x1, .f32⟩
  | .hbm, ⟨92, _⟩ => ⟨S1x8, .f32⟩
  | .hbm, ⟨93, _⟩ => ⟨S128x8, .f32⟩
  | .hbm, ⟨94, _⟩ => ⟨S128x8, .f32⟩
  | .hbm, ⟨95, _⟩ => ⟨S128x8, .f32⟩
  | .hbm, ⟨96, _⟩ => ⟨S128x8, .f32⟩
  | .hbm, ⟨97, _⟩ => ⟨S128x8x64, .f32⟩
  | .hbm, ⟨98, _⟩ => ⟨S128x512, .f32⟩
  | .hbm, ⟨99, _⟩ => ⟨S128x8x64, .f32⟩
  | .hbm, ⟨100, _⟩ => ⟨S128x512, .f32⟩
  | .hbm, ⟨101, _⟩ => ⟨S_, .f32⟩
  | .hbm, ⟨102, _⟩ => ⟨S8, .f32⟩
  | .hbm, ⟨103, _⟩ => ⟨S8, .f32⟩
  | .hbm, ⟨104, _⟩ => ⟨S8, .f32⟩
  | .hbm, ⟨105, _⟩ => ⟨S8x64, .f32⟩
  | .hbm, ⟨106, _⟩ => ⟨S512, .f32⟩
  | .hbm, ⟨107, _⟩ => ⟨S4x128x1, .f32⟩
  | .hbm, ⟨108, _⟩ => ⟨S4x128x128, .f32⟩
  | .hbm, ⟨109, _⟩ => ⟨S32x8x64x128, .f32⟩
  | .hbm, ⟨110, _⟩ => ⟨S32x4x128x128, .f32⟩
  | .hbm, ⟨111, _⟩ => ⟨S4096x1024, .bf16⟩
  | .hbm, ⟨112, _⟩ => ⟨S32x4x128x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S8x128x128, .f32⟩
  | .local _ .vmem, ⟨9, _⟩ => ⟨S128x512, .f32⟩
  | .local _ .vmem, ⟨10, _⟩ => ⟨S128x512, .f32⟩
  | .local _ .vmem, ⟨11, _⟩ => ⟨S4x128x128, .f32⟩
  | .local _ .vmem, ⟨12, _⟩ => ⟨S1x4x128x128, .f32⟩
  | .local _ .vmem, ⟨13, _⟩ => ⟨S1x4x128x128, .f32⟩
  | .local _ .vmem, ⟨14, _⟩ => ⟨S128x1024, .bf16⟩
  | .local _ .vmem, ⟨15, _⟩ => ⟨S128x1024, .bf16⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | _, _ => ⟨S32x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call3_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83_0 : Ref sig .tc := ⟨.hbm, 111, rfl⟩
abbrev main_v83_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_227 : BitVec 32 := 0#32
  let v480 : BitVec 1 := Scalar.cmpi .eq arg1 c0_i32_227
  let v481 : BitVec 32 := Scalar.extui v480
  let c0_i32_228 : BitVec 32 := 0#32
  let v482 : BitVec 1 := Scalar.cmpi .ne v481 c0_i32_228
  v482

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S32x8x8x64 : Shape := ⟨4, ![32, 8, 8, 64]⟩
abbrev S32x8x8x128 : Shape := ⟨4, ![32, 8, 8, 128]⟩
abbrev S32x8x1024 : Shape := ⟨3, ![32, 8, 1024]⟩
abbrev S1x32x8x64x128 : Shape := ⟨5, ![1, 32, 8, 64, 128]⟩
abbrev S8 : Shape := ⟨1, ![8]⟩
abbrev S_ : Shape := ⟨0, ![]⟩
abbrev S32x8x64x128 : Shape := ⟨4, ![32, 8, 64, 128]⟩
abbrev S8x1 : Shape := ⟨2, ![8, 1]⟩
abbrev S1x8 : Shape := ⟨2, ![1, 8]⟩
abbrev S8x8 : Shape := ⟨2, ![8, 8]⟩
abbrev S1x8x1x1 : Shape := ⟨4, ![1, 8, 1, 1]⟩
abbrev S1x8x8x1 : Shape := ⟨4, ![1, 8, 8, 1]⟩
abbrev S32x4x128x128 : Shape := ⟨4, ![32, 4, 128, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x8x8x64, .f32⟩
  | .hbm, ⟨1, _⟩ => ⟨S32x8x8x64, .f32⟩
  | .hbm, ⟨2, _⟩ => ⟨S32x8x8x128, .f32⟩
  | .hbm, ⟨3, _⟩ => ⟨S32x8x1024, .f32⟩
  | .hbm, ⟨4, _⟩ => ⟨S1x32x8x64x128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S32x8x64x128, .f32⟩
  | .hbm, ⟨17, _⟩ => ⟨S8, .f32⟩
  | .hbm, ⟨18, _⟩ => ⟨S_, .f32⟩
  | .hbm, ⟨19, _⟩ => ⟨S32x8x8x64, .f32⟩
  | .hbm, ⟨20, _⟩ => ⟨S32x8x8x64, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x1, .f32⟩
  | .hbm, ⟨25, _⟩ => ⟨S1x8, .f32⟩
  | .hbm, ⟨26, _⟩ => ⟨S8x8, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S1x8x1x1, .f32⟩
  | .hbm, ⟨35, _⟩ => ⟨S32x8x64x128, .f32⟩
  | .hbm, ⟨36, _⟩ => ⟨S32x8x64x128, .f32⟩
  | .hbm, ⟨37, _⟩ => ⟨S1x8x8x1, .f32⟩
  | .hbm, ⟨38, _⟩ => ⟨S32x8x8x64, .f32⟩
  | .hbm, ⟨39, _⟩ => ⟨S32x8x8x64, .f32⟩
  | .hbm, ⟨40, _⟩ => ⟨S32x8x64x128, .f32⟩
  | .hbm, ⟨41, _⟩ => ⟨S32x8x64x128, .f32⟩
  | .hbm, ⟨42, _⟩ => ⟨S32x4x128x128, .f32⟩
  | _, _ => ⟨S32x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Setup.lean ====
/- The expert feed-forward call's launch: the memory when the region is entered, the prefetched tables, the operands
   left in HBM, the scratch and its two DMA semaphores, and the words the body reads from the tables. -/
module

public import proofs.«01_k».proof.Proof.Gen.KernelIdeal.Skeleton
public import proofs.«01_k».proof.Proof.Gen.KernelIdeal.Launch
public import Idealize.ShloMosaic.Lib.Exec
public import Idealize.ShloMosaic.Lib.Pipeline.Frame
public import Idealize.ShloMosaic.Lib.Pipeline.FrameBody
public import Idealize.ShloMosaic.Lib.Transfers

@[expose] public section

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The logic's model: the pipeline library's state beside the counters of the body's own transfers. -/
abbrev MM (F : FTy → Type) := MT nD τ sig Unit (Elt F) ℕ (Pipeline.UD sig nD τ) ℕ

variable (m : (ℓ : Loc nD τ sig) → Buf (Elt F) ℓ) (ρ : Dev nD → PrngReg)

/-- The host operations before the call, stretch by stretch. -/
abbrev hostStretches : List (List (HloOp τ sig (Elt F))) :=
  [hostOps0, hostOps0_1, hostOps0_2, hostOps0_3, hostOps0_4, hostOps0_5, hostOps0_6, hostOps0_7, hostOps0_8]

/-- Core `c`'s TensorCore buffers when the region is entered. -/
def V (c : Dev nD) (b : Ref sig .tc) : Buf (Elt F) ((c : Thread nD τ).loc b) :=
  StableHlo.after (hostStretches (F := F)).flatten (fun b => m (c, b)) b

/-- The tables' contents when the region is entered (the program runs on one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The body's operands -/

abbrev tbM0 : Memref sig .tc .smem S191 .i32 := Memref.whole main_v11
abbrev tbM1 : Memref sig .tc .smem S191 .i32 := Memref.whole main_v28
abbrev tbM2 : Memref sig .tc .smem S1 .i32 := Memref.whole main_v21
abbrev tbM3 : Memref sig .tc .smem S191 .i32 := Memref.whole main_v51
abbrev tbM4 : Memref sig .tc .smem S191 .i32 := Memref.whole main_v42
abbrev hbM0 : Memref sig .tc .hbm S32x1024x2048 .f32 := Memref.whole main_v52
abbrev hbM1 : Memref sig .tc .hbm S32x1024x1024 .f32 := Memref.whole main_v54
abbrev scM0 : Memref sig .tc .vmem S1024x2048 .bf16 := Memref.whole cc0_scratch0
abbrev scM1 : Memref sig .tc .vmem S1024x1024 .bf16 := Memref.whole cc0_scratch1
abbrev scM2 : Memref sig .tc .vmem S1024x2048 .f32 := Memref.whole cc0_scratch2
abbrev scM3 : Memref sig .tc .vmem S1024x1024 .f32 := Memref.whole cc0_scratch3

/-- A memref's buffer contents on core `c`, the buffer held whole, and held at half the full share. -/
abbrev BufOf (c : Dev nD) {sp : Space} {S : Shape} {e : EltTy} (M : Memref sig .tc sp S e) : Type := Buf (Elt F) (M.view.loc (c : Thread nD τ))
abbrev fullPt (c : Dev nD) {sp : Space} {S : Shape} {e : EltTy} (M : Memref sig .tc sp S e) (f : BufOf (F := F) c M) : sProp (MM F) :=
  M.view.loc (c : Thread nD τ) ↦{fullShare} f
abbrev halfPt (c : Dev nD) {sp : Space} {S : Shape} {e : EltTy} (M : Memref sig .tc sp S e) (f : BufOf (F := F) c M) : sProp (MM F) :=
  M.view.loc (c : Thread nD τ) ↦{fullShare.right} f

theorem PhiT_eq (c : Dev nD) : (Pipeline.ΦT pre0 (tbl m) c : sProp (MM F))
    = iprop(halfPt c tbM0 (tbl m 0) ∗ halfPt c tbM1 (tbl m 1) ∗ halfPt c tbM2 (tbl m 2) ∗ halfPt c tbM3 (tbl m 3) ∗ halfPt c tbM4 (tbl m 4)) := by
  unfold Pipeline.ΦT Pipeline.prefHeld
  rw [bigSep_univ_eq_bigSepL [(0 : Fin 5), 1, 2, 3, 4] (by decide) (by decide)]
  rfl

/-! ## The kernel's own semaphores and the operands left in HBM -/

abbrev osem : Fin 2 → SemLoc sig := fun j => (![SemLoc.dma 8, SemLoc.dma 9] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp (MM F))
      = iprop(semVal ((c : Thread nD τ), SemLoc.dma 8) 0 ∗ semVal ((c : Thread nD τ), SemLoc.dma 9) 0) := by
  rw [Pipeline.ownSems0_eq_of_list c osem [0, 1] (by decide) (by decide)]; rfl

def H0 : Finset (Ref sig .tc) := {main_v52, main_v54}
theorem H0_sub : H0 ⊆ Pipeline.restRefsP sig pre0 spec0 := by decide
theorem hbmPts_eq (c : Dev nD) :
    (bigSep H0 (fun b => ((c : Thread nD τ).loc b) ↦{fullShare} V m c b) : sProp (MM F))
      = iprop(fullPt c hbM0 (V m c main_v52) ∗ fullPt c hbM1 (V m c main_v54)) := by
  rw [BI.bigSep_eq_bigSepL_of_eq [main_v52, main_v54] (by decide) (by decide)]; rfl

theorem PhiD_eq (c : Dev nD) :
    (Pipeline.ΦD osem spec0 H0 (V m) c : sProp (MM F))
      = iprop(iprop((∃ f, fullPt c scM0 f) ∗ (∃ f, fullPt c scM1 f) ∗ (∃ f, fullPt c scM2 f) ∗ (∃ f, fullPt c scM3 f))
          ∗ (∃ r, prngReg c r)
          ∗ iprop(semVal ((c : Thread nD τ), SemLoc.dma 8) 0 ∗ semVal ((c : Thread nD τ), SemLoc.dma 9) 0)
          ∗ iprop(fullPt c hbM0 (V m c main_v52) ∗ fullPt c hbM1 (V m c main_v54))) := by
  rw [Pipeline.ΦD_eq, scopedRest0_eq, ownSems_eq, hbmPts_eq]

/-! ## The words the body reads -/

/-- A table's word at the grid point. -/
abbrev wordAt (c : Dev nD) (M : Memref sig .tc .smem S191 .i32) (x : BufOf (F := F) c M) (i : grid0.Coords) : BitVec 32 :=
  M.view.readAt (Elt F) (Rect.unit (s := S191) (k0_off1 i) S1.size (k0_off1_inb i)).toLoadRect x (Shape.Idx.first (numel1_S1.symm ▸ Nat.one_pos))

/-- An expert's weights, as the transfers name them. -/
abbrev wguM (off : Fin 3 → ℕ) (h : ∀ a, off a + S1x1024x2048.size a ≤ S32x1024x2048.size a) : Memref sig .tc .hbm S1024x2048 .f32 :=
  (hbM0.slice (Rect.unit (s := S32x1024x2048) off S1x1024x2048.size h) (fun _ => rfl)).squeeze S1024x2048 squeezes_S1x1024x2048_S1024x2048
abbrev wdM (off : Fin 3 → ℕ) (h : ∀ a, off a + S1x1024x1024.size a ≤ S32x1024x1024.size a) : Memref sig .tc .hbm S1024x1024 .f32 :=
  (hbM1.slice (Rect.unit (s := S32x1024x1024) off S1x1024x1024.size h) (fun _ => rfl)).squeeze S1024x1024 squeezes_S1x1024x1024_S1024x1024

end Cert.KernelIdeal.Moe

end
-- ==== Proof.Reads.lean ====
/- What the host operations before the call leave in the buffers the call reads. -/
module

public import proofs.«01_k».proof.Proof.Setup
public import Idealize.ShloMosaic.Lib.StableHlo.RunRead
public import Idealize.ShloMosaic.Lib.Routing.OpsSet
public import Idealize.ShloMosaic.Lib.Routing.OpsSearch
public import Idealize.ShloMosaic.Lib.Routing.Words

@[expose] public section

set_option maxRecDepth 16384
set_option maxHeartbeats 1000000

noncomputable section

namespace Cert.KernelIdeal.Moe

open Idealize.ShloMosaic Idealize.ShloMosaic.TcCoe Idealize.ShloMosaic.StableHlo
open Cert.KernelIdeal Cert.KernelIdeal.Gen
open Facts

variable {F : FTy → Type} [FloatOps F]
variable (m : (ℓ : Loc nD τ sig) → Buf (Elt F) ℓ)

/-- Each block's expert. -/
def beT (p : IVec S32 32) : IVec S191 32 :=
  minsi (Host.reduce IntOp.addi (extui 32 (cmpi .sge
      (broadcastInDim S191x32 ![0, 1] bcast_S191x1_S191x32_0_1 (broadcastInDim S191x1 ![0] bcast_S191_S191x1_0 (muli (iotaInDim S191 32 0) (broadcastInDim S191 ![] bcast_S_S191 (constantI S_ 32 512#32)))))
      (broadcastInDim S191x32 ![0, 1] bcast_S1x32_S191x32_0_1 (broadcastInDim S1x32 ![1] bcast_S32_S1x32_1 p))) natLt_1_32) (constantI S_ 32 0#32) reducesTo_S191x32_S191_d1 h_S_)
    (broadcastInDim S191 ![] bcast_S_S191 (constantI S_ 32 31#32))

/-- How many blocks are used, as a scalar. -/
def nuS (p : IVec S32 32) : IVec S_ 32 :=
  Routing.pyDiv0 (shapeCast S_ (extractStridedSlice S1 ![31] p slices_S32_S1_31) shapeCasts_S1_S_) (constantI S_ 32 512#32)

/-- A block begins an expert's run. -/
def fiT (p : IVec S32 32) : IVec S191 32 :=
  select (cmpi .slt (iotaInDim S191 32 0) (broadcastInDim S191 ![] bcast_S_S191 (nuS p)))
    (concatenate S191 0 [⟨S1, broadcastInDim S1 ![] bcast_S_S1 (constantI S_ 32 1#32)⟩,
      ⟨S190, extui 32 (cmpi .ne (extractStridedSlice S190 ![1] (beT p) slices_S191_S190_1) (extractStridedSlice S190 ![0] (beT p) slices_S191_S190_0)) natLt_1_32⟩] concatenates_S1_S190_S191_d0)
    (broadcastInDim S191 ![] bcast_S_S191 (constantI S_ 32 0#32))

/-- The block after the end of the block's expert. -/
def afT (p : IVec S32 32) : IVec S191 32 :=
  Routing.pyDiv bcast_S_S191 (Host.gather gather_S32_S191x1_S191_n_0_n_n_0_1_1 p
    (broadcastInDim S191x1 ![0] bcast_S191_S191x1_0 (select (cmpi .slt (beT p) (broadcastInDim S191 ![] bcast_S_S191 (constantI S_ 32 0#32)))
      (addi (beT p) (broadcastInDim S191 ![] bcast_S_S191 (constantI S_ 32 32#32))) (beT p)))) (constantI S_ 32 512#32)

/-- Another expert follows. -/
def hnT (p : IVec S32 32) : IVec S191 32 :=
  extui 32 (andi (cmpi .eq (fiT p) (broadcastInDim S191 ![] bcast_S_S191 (constantI S_ 32 1#32)))
    (cmpi .slt (afT p) (broadcastInDim S191 ![] bcast_S_S191 (nuS p)))) natLt_1_32

/-- The next expert. -/
def nxT (p : IVec S32 32) : IVec S191 32 :=
  let i := minsi (afT p) (broadcastInDim S191 ![] bcast_S_S191 (constantI S_ 32 190#32))
  Host.gather gather_S191_S191x1_S191_n_0_n_n_0_1_1 (beT p)
    (broadcastInDim S191x1 ![0] bcast_S191_S191x1_0 (select (cmpi .slt i (broadcastInDim S191 ![] bcast_S_S191 (constantI S_ 32 0#32)))
      (addi i (broadcastInDim S191 ![] bcast_S_S191 (constantI S_ 32 191#32))) i))

theorem V_be (c : Dev nD) : V m c main_v11 = beT (m (c, main_arg0)) := by
  unfold V beT
  simp only [hostStretches, List.flatten_cons, List.flatten_nil]
  after_reads_simp

theorem V_nu (c : Dev nD) : V m c main_v21 = shapeCast S1 (nuS (m (c, main_arg0))) shapeCasts_S_S1 := by
  unfold V nuS Routing.pyDiv0
  simp only [hostStretches, List.flatten_cons, List.flatten_nil]
  after_reads_simp
  rfl

/-- What the buffers hold after the first stretch, the fifth, the sixth, the seventh, and the eighth. -/
def V0 (c : Dev nD) : Valuation τ sig (Elt F) := StableHlo.after hostOps0 (fun b => m (c, b))
def V4 (c : Dev nD) : Valuation τ sig (Elt F) := StableHlo.after (List.flatten [hostOps0_1, hostOps0_2, hostOps0_3, hostOps0_4]) (V0 m c)
def V5 (c : Dev nD) : Valuation τ sig (Elt F) := StableHlo.after hostOps0_5 (V4 m c)
def V6 (c : Dev nD) : Valuation τ sig (Elt F) := StableHlo.after hostOps0_6 (V5 m c)
def V7 (c : Dev nD) : Valuation τ sig (Elt F) := StableHlo.after hostOps0_7 (V6 m c)

theorem V_split (c : Dev nD) (b : Ref sig .tc) : V m c b = StableHlo.after hostOps0_8 (V7 m c) b := rfl

theorem V0_be (c : Dev nD) : V0 m c main_v11 = beT (m (c, main_arg0)) := by
  unfold V0 beT
  after_reads_simp

theorem V0_arg (c : Dev nD) : V0 m c main_arg0 = m (c, main_arg0) := by
  unfold V0
  after_reads_simp

theorem V0_17 (c : Dev nD) : V0 m c main_v17 =
    concatenate S191 0 [⟨S1, broadcastInDim S1 ![] bcast_S_S1 (constantI S_ 32 1#32)⟩,
      ⟨S190, extui 32 (cmpi .ne (extractStridedSlice S190 ![1] (beT (m (c, main_arg0))) slices_S191_S190_1) (extractStridedSlice S190 ![0] (beT (m (c, main_arg0))) slices_S191_S190_0)) natLt_1_32⟩] concatenates_S1_S190_S191_d0 := by
  unfold V0 beT
  after_reads_simp
  refine congrArg₂ (fun (a : IVec S1 32) (b : IVec S190 32) => concatenate S191 0 [⟨S1, a⟩, ⟨S190, b⟩] concatenates_S1_S190_S191_d0) ?_ ?_ <;> after_reads_simp

theorem V4_be (c : Dev nD) : V4 m c main_v11 = beT (m (c, main_arg0)) := by
  rw [← V0_be m c]
  unfold V4
  generalize V0 m c = W
  simp only [List.flatten_cons, List.flatten_nil]
  after_reads_simp

theorem V4_arg (c : Dev nD) : V4 m c main_arg0 = m (c, main_arg0) := by
  rw [← V0_arg m c]
  unfold V4
  generalize V0 m c = W
  simp only [List.flatten_cons, List.flatten_nil]
  after_reads_simp

theorem V4_nu (c : Dev nD) : V4 m c main_v24 = nuS (m (c, main_arg0)) := by
  rw [← V0_arg m c]
  unfold V4
  generalize V0 m c = W
  unfold nuS Routing.pyDiv0
  simp only [List.flatten_cons, List.flatten_nil]
  after_reads_simp
  rfl

theorem V4_17 (c : Dev nD) : V4 m c main_v17 =
    concatenate S191 0 [⟨S1, broadcastInDim S1 ![] bcast_S_S1 (constantI S_ 32 1#32)⟩,
      ⟨S190, extui 32 (cmpi .ne (extractStridedSlice S190 ![1] (beT (m (c, main_arg0))) slices_S191_S190_1) (extractStridedSlice S190 ![0] (beT (m (c, main_arg0))) slices_S191_S190_0)) natLt_1_32⟩] concatenates_S1_S190_S191_d0 := by
  rw [← V0_17 m c]
  unfold V4
  generalize V0 m c = W
  simp only [List.flatten_cons, List.flatten_nil]
  after_reads_simp

theorem V4_27 (c : Dev nD) : V4 m c main_v27 = cmpi .slt (iotaInDim S191 32 0) (broadcastInDim S191 ![] bcast_S_S191 (V4 m c main_v24)) := by
  unfold V4
  generalize V0 m c = W
  simp only [List.flatten_cons, List.flatten_nil]
  after_reads_simp

theorem V4_c (c : Dev nD) : V4 m c main_c_5 = constantI S_ 32 0#32 := by
  unfold V4
  generalize V0 m c = W
  simp only [List.flatten_cons, List.flatten_nil]
  after_reads_simp

theorem V5_be (c : Dev nD) : V5 m c main_v11 = beT (m (c, main_arg0)) := by
  rw [← V4_be m c]
  unfold V5
  generalize V4 m c = W
  after_reads_simp

theorem V5_arg (c : Dev nD) : V5 m c main_arg0 = m (c, main_arg0) := by
  rw [← V4_arg m c]
  unfold V5
  generalize V4 m c = W
  after_reads_simp

theorem V5_nu (c : Dev nD) : V5 m c main_v24 = nuS (m (c, main_arg0)) := by
  rw [← V4_nu m c]
  unfold V5
  generalize V4 m c = W
  after_reads_simp

theorem V5_fi (c : Dev nD) : V5 m c main_v28 = fiT (m (c, main_arg0)) := by
  unfold V5 fiT
  rw [← V4_17 m c, ← V4_nu m c, ← V4_27 m c, ← V4_c m c]
  generalize V4 m c = W
  after_reads_simp
  rfl

theorem V6_take (c : Dev nD) : V6 m c main_v35 = Host.gather gather_S32_S191x1_S191_n_0_n_n_0_1_1 (m (c, main_arg0))
    (broadcastInDim S191x1 ![0] bcast_S191_S191x1_0 (select (cmpi .slt (beT (m (c, main_arg0))) (broadcastInDim S191 ![] bcast_S_S191 (constantI S_ 32 0#32)))
      (addi (beT (m (c, main_arg0))) (broadcastInDim S191 ![] bcast_S_S191 (constantI S_ 32 32#32))) (beT (m (c, main_arg0))))) := by
  rw [← V5_be m c, ← V5_arg m c]
  unfold V6
  generalize V5 m c = W
  after_reads_simp

theorem V6_be (c : Dev nD) : V6 m c main_v11 = beT (m (c, main_arg0)) := by
  rw [← V5_be m c]
  unfold V6
  generalize V5 m c = W
  after_reads_simp

theorem V6_nu (c : Dev nD) : V6 m c main_v24 = nuS (m (c, main_arg0)) := by
  rw [← V5_nu m c]
  unfold V6
  generalize V5 m c = W
  after_reads_simp

theorem V6_fi (c : Dev nD) : V6 m c main_v28 = fiT (m (c, main_arg0)) := by
  rw [← V5_fi m c]
  unfold V6
  generalize V5 m c = W
  after_reads_simp

theorem V6_c8 (c : Dev nD) : V6 m c main_c_8 = constantI S_ 32 512#32 := by
  unfold V6
  generalize V5 m c = W
  after_reads_simp

theorem V7_af (c : Dev nD) : V7 m c main_v36 = afT (m (c, main_arg0)) := by
  unfold V7 afT
  rw [← V6_take m c, ← V6_c8 m c]
  generalize V6 m c = W
  unfold Routing.pyDiv
  after_reads_simp
  rfl

theorem V7_be (c : Dev nD) : V7 m c main_v11 = beT (m (c, main_arg0)) := by
  rw [← V6_be m c]
  unfold V7
  generalize V6 m c = W
  after_reads_simp

theorem V7_nu (c : Dev nD) : V7 m c main_v24 = nuS (m (c, main_arg0)) := by
  rw [← V6_nu m c]
  unfold V7
  generalize V6 m c = W
  after_reads_simp

theorem V7_fi (c : Dev nD) : V7 m c main_v28 = fiT (m (c, main_arg0)) := by
  rw [← V6_fi m c]
  unfold V7
  generalize V6 m c = W
  after_reads_simp

theorem V_hn (c : Dev nD) : V m c main_v42 = hnT (m (c, main_arg0)) := by
  rw [V_split]
  unfold hnT
  rw [← V7_fi m c, ← V7_af m c, ← V7_nu m c]
  generalize V7 m c = W
  after_reads_simp

theorem V_nx (c : Dev nD) : V m c main_v51 = nxT (m (c, main_arg0)) := by
  rw [V_split]
  unfold nxT
  rw [← V7_be m c, ← V7_af m c]
  generalize V7 m c = W
  after_reads_simp

theorem V_fi (c : Dev nD) : V m c main_v28 = fiT (m (c, main_arg0)) := by
  rw [V_split, ← V7_fi m c]
  generalize V7 m c = W
  after_reads_simp

theorem V_w1 (c : Dev nD) : V m c main_v52 = shapeCast S32x1024x2048 (m (c, main_arg2)) shapeCasts_S1x32x1024x2048_S32x1024x2048 := by
  unfold V
  simp only [hostStretches, List.flatten_cons, List.flatten_nil]
  after_reads_simp
  rfl

theorem V_w2 (c : Dev nD) : V m c main_v54 = shapeCast S32x1024x1024 (m (c, main_arg4)) shapeCasts_S1x32x1024x1024_S32x1024x1024 := by
  unfold V
  simp only [hostStretches, List.flatten_cons, List.flatten_nil]
  after_reads_simp
  rfl

theorem V_b1 (c : Dev nD) : V m c main_v56 = shapeCast S32x1x2048 (shapeCast S32x2048 (m (c, main_arg3)) shapeCasts_S1x32x2048_S32x2048) shapeCasts_S32x2048_S32x1x2048 := by
  unfold V
  simp only [hostStretches, List.flatten_cons, List.flatten_nil]
  after_reads_simp
  rfl

theorem V_b2 (c : Dev nD) : V m c main_v57 = shapeCast S32x1x1024 (shapeCast S32x1024 (m (c, main_arg5)) shapeCasts_S1x32x1024_S32x1024) shapeCasts_S32x1024_S32x1x1024 := by
  unfold V
  simp only [hostStretches, List.flatten_cons, List.flatten_nil]
  after_reads_simp
  rfl

end Cert.KernelIdeal.Moe

end
-- ==== Proof.Blocks.lean ====
/- The experts' segments as numbers of blocks: which expert a block belongs to, which blocks begin an expert's run, and what the
   two transfers bring in between one run and the next. -/
module

public import Idealize.ShloMosaic.Lib.Routing.OpsSet
public import Idealize.ShloMosaic.Lib.Routing.OpsSearch
public import Idealize.ShloMosaic.Lib.Routing.Words

@[expose] public section

namespace Cert.KernelIdeal.Moe

/-- The experts' segment ends, counted in blocks. -/
structure Segs where
  k : ℕ → ℕ
  mono : Monotone k
  le : ∀ e, k e ≤ 191

namespace Segs
variable (s : Segs)

/-- How many experts' segments end at or before block `t`. -/
def cnt (t : ℕ) : ℕ := Nat.count (fun e => s.k e ≤ t) 32
def be (t : ℕ) : ℕ := min (s.cnt t) 31
def nu : ℕ := s.k 31
def aft (t : ℕ) : ℕ := s.k (s.be t)
def fi (t : ℕ) : Bool := decide ((t = 0 ∨ s.be t ≠ s.be (t - 1)) ∧ t < s.nu)
def hn (t : ℕ) : Bool := s.fi t && decide (s.aft t < s.nu)
def nx (t : ℕ) : ℕ := s.be (min (s.aft t) 190)

theorem be_lt (t : ℕ) : s.be t < 32 := by unfold be; omega
def beF (t : ℕ) : Fin 32 := ⟨s.be t, s.be_lt t⟩
def nxF (t : ℕ) : Fin 32 := ⟨s.nx t, s.be_lt _⟩

def pn : ℕ → Option (Fin 32)
  | 0 => none
  | t + 1 => if s.fi t then (if s.hn t then some (s.nxF t) else none) else pn t
def ld : ℕ → Option (Fin 32)
  | 0 => none
  | t + 1 => if s.fi t then some (s.beF t) else ld t

theorem cnt_iff (t e : ℕ) (he : e < 32) : e < s.cnt t ↔ s.k e ≤ t := by
  unfold cnt
  constructor
  · intro h
    by_contra hk
    have : Nat.count (fun e => s.k e ≤ t) 32 ≤ e := by
      have h2 : Nat.count (fun e => s.k e ≤ t) 32 = Nat.count (fun e => s.k e ≤ t) e := by
        have : (32 : ℕ) = e + (32 - e) := by omega
        rw [this, Nat.count_add]
        have h0 : Nat.count (fun j => s.k (e + j) ≤ t) (32 - e) = 0 := by
          rw [Nat.count_eq_card_filter_range, Finset.card_eq_zero, Finset.filter_eq_empty_iff]
          intro j _ hj
          exact hk ((s.mono (Nat.le_add_right e j)).trans hj)
        rw [h0, Nat.add_zero]
      rw [h2]; exact Nat.count_le _
    omega
  · intro hk
    have h1 : Nat.count (fun e => s.k e ≤ t) (e + 1) = e + 1 := by
      rw [Nat.count_eq_card_filter_range, Finset.filter_true_of_mem, Finset.card_range]
      intro j hj
      exact (s.mono (by simpa [Nat.lt_succ_iff] using hj)).trans hk
    have h2 := Nat.count_monotone (fun e => s.k e ≤ t) (show e + 1 ≤ 32 by omega)
    omega

theorem cnt_le (t : ℕ) : s.cnt t ≤ 32 := by
  unfold cnt; exact Nat.count_le _
theorem be_eq {t : ℕ} (h : t < s.nu) : s.be t = s.cnt t := by
  have := (s.cnt_iff t 31 (by omega)).not.mpr (by unfold nu at h; omega)
  unfold be; omega
theorem cnt_mono {t u : ℕ} (h : t ≤ u) : s.cnt t ≤ s.cnt u := by
  unfold cnt
  exact Nat.count_mono_left fun e _ he => he.trans h
theorem be_mono {t u : ℕ} (h : t ≤ u) : s.be t ≤ s.be u := by
  have := s.cnt_mono h; unfold be; omega
theorem aft_gt {t : ℕ} (h : t < s.nu) : t < s.aft t := by
  unfold aft
  by_contra hh
  have := (s.cnt_iff t (s.be t) (s.be_lt t)).mpr (by omega)
  rw [s.be_eq h] at this; omega
theorem be_run {t u : ℕ} (h : t ≤ u) (hu : u < s.aft t) (hn : u < s.nu) : s.be u = s.be t := by
  have h1 := s.be_mono h
  by_contra hne
  have hl : s.be t < s.be u := by omega
  rw [s.be_eq hn] at hl
  have := (s.cnt_iff u (s.be t) (s.be_lt t)).mp hl
  unfold aft at hu; omega

theorem fi_lt {t : ℕ} (h : s.fi t = true) : t < s.nu := by
  unfold fi at h; exact (of_decide_eq_true h).2
theorem fi_zero (h : 0 < s.nu) : s.fi 0 = true := by
  unfold fi; exact decide_eq_true ⟨Or.inl rfl, h⟩
theorem be_of_not_fi {t : ℕ} (h : s.fi (t + 1) = false) (hu : t + 1 < s.nu) : s.be (t + 1) = s.be t := by
  unfold fi at h
  by_contra hne
  exact of_decide_eq_false h ⟨Or.inr (by simpa using hne), hu⟩

theorem nu_le : s.nu ≤ 191 := s.le 31

theorem pn_succ_fi {t : ℕ} (h : s.fi t = true) : s.pn (t + 1) = if s.hn t then some (s.nxF t) else none := by
  rw [pn, if_pos h]
theorem pn_succ_not {t : ℕ} (h : s.fi t = false) : s.pn (t + 1) = s.pn t := by
  rw [pn, if_neg (by rw [h]; decide)]
theorem ld_succ_fi {t : ℕ} (h : s.fi t = true) : s.ld (t + 1) = some (s.beF t) := by
  rw [ld, if_pos h]
theorem ld_succ_not {t : ℕ} (h : s.fi t = false) : s.ld (t + 1) = s.ld t := by
  rw [ld, if_neg (by rw [h]; decide)]

theorem ld_used (t : ℕ) (h : t < s.nu) : s.ld (t + 1) = some (s.beF t) := by
  induction t with
  | zero => exact s.ld_succ_fi (s.fi_zero h)
  | succ t ih =>
    cases hf : s.fi (t + 1) with
    | true => exact s.ld_succ_fi hf
    | false =>
      rw [s.ld_succ_not hf, ih (by omega)]
      exact congrArg some (Fin.ext (s.be_of_not_fi hf h).symm)

theorem pn_fi {t : ℕ} (h : s.fi t = true) : s.pn (t + 1) = if s.aft t < s.nu then some (s.beF (s.aft t)) else none := by
  rw [s.pn_succ_fi h]
  unfold hn
  rw [h]
  by_cases ha : s.aft t < s.nu
  · have : s.nxF t = s.beF (s.aft t) := Fin.ext (by
      show s.be (min (s.aft t) 190) = s.be (s.aft t)
      have := s.nu_le
      rw [Nat.min_eq_left (by omega)])
    simp [ha, this]
  · simp [ha]

theorem pn_used (t : ℕ) (h : t < s.nu) : s.pn (t + 1) = if s.aft t < s.nu then some (s.beF (s.aft t)) else none := by
  induction t with
  | zero => exact s.pn_fi (s.fi_zero h)
  | succ t ih =>
    cases hf : s.fi (t + 1) with
    | true => exact s.pn_fi hf
    | false =>
      have : s.aft (t + 1) = s.aft t := by unfold aft; rw [s.be_of_not_fi hf h]
      rw [s.pn_succ_not hf, ih (by omega), this]

theorem pn_at_fi {t : ℕ} (h : s.fi t = true) (h0 : t ≠ 0) : s.pn t = some (s.beF t) := by
  obtain ⟨u, rfl⟩ : ∃ u, t = u + 1 := ⟨t - 1, by omega⟩
  have hu := s.fi_lt h
  have hne : s.be (u + 1) ≠ s.be u := by
    unfold fi at h
    rcases (of_decide_eq_true h).1 with h1 | h1
    · omega
    · simpa using h1
  have h1 := s.aft_gt (show u < s.nu by omega)
  have h2 : s.aft u = u + 1 := by
    by_contra hh
    exact hne (s.be_run (Nat.le_succ u) (by omega) hu)
  rw [s.pn_used u (by omega), h2, if_pos hu]

theorem pn_past (n : ℕ) (h : s.nu ≤ n) : s.pn n = none := by
  induction n with
  | zero => rfl
  | succ n ih =>
    by_cases hn : s.nu ≤ n
    · have hf : s.fi n = false := by
        cases hf : s.fi n with
        | false => rfl
        | true => have := s.fi_lt hf; omega
      rw [s.pn_succ_not hf, ih hn]
    · have h1 := s.aft_gt (show n < s.nu by omega)
      rw [s.pn_used n (by omega), if_neg (by omega)]

end Segs

end Cert.KernelIdeal.Moe
-- ==== Proof.Tables.lean ====
/- The tables' words, from the segment ends: every segment ends at a multiple of the block. -/
module

public import proofs.«01_k».proof.Proof.Reads
public import proofs.«01_k».proof.Proof.Blocks

@[expose] public section

set_option maxRecDepth 16384
set_option maxHeartbeats 1000000

noncomputable section

namespace Cert.KernelIdeal.Moe

open Idealize.ShloMosaic Idealize.ShloMosaic.TcCoe Idealize.ShloMosaic.StableHlo
open Idealize.ShloMosaic.Routing Idealize.ShloMosaic.ValueIdx WordCmp
open Cert.KernelIdeal Cert.KernelIdeal.Gen
open Facts

/-- The lesser of two small words. -/
theorem minsi_word {a b : ℕ} (ha : a < 2 ^ 31) (hb : b < 2 ^ 31) :
    IntOp.minsi (BitVec.ofNat 32 a) (BitVec.ofNat 32 b) = BitVec.ofNat 32 (min a b) := by
  unfold IntOp.minsi
  have h : (BitVec.ofNat 32 a).slt (BitVec.ofNat 32 b) = decide (a < b) := by
    rw [BitVec.slt_eq_decide, BitVec.toInt_eq_toNat_of_lt, BitVec.toInt_eq_toNat_of_lt] <;>
      simp only [BitVec.toNat_ofNat] <;> rw [Nat.mod_eq_of_lt (by omega)]
    · rw [Nat.mod_eq_of_lt (by omega)]; simp
    · omega
    · omega
  rw [h]
  by_cases hab : a < b
  · rw [min_eq_left hab.le]; simp [hab]
  · rw [min_eq_right (by omega)]; simp [hab]

variable (p : IVec S32 32) (s : Segs) (hp : ∀ e : Fin 32, p (ix1 e) = BitVec.ofNat 32 (512 * s.k e.val))
include hp

theorem beT_ap (t : Fin 191) : beT p (ix1 t) = BitVec.ofNat 32 (s.be t.val) := by
  unfold beT
  have hc := reduce_count (n := 191) (m := 32) (by omega) (cmpi .sge
      (broadcastInDim S191x32 ![0, 1] bcast_S191x1_S191x32_0_1 (broadcastInDim S191x1 ![0] bcast_S191_S191x1_0 (muli (iotaInDim S191 32 0) (broadcastInDim S191 ![] bcast_S_S191 (constantI S_ 32 512#32)))))
      (broadcastInDim S191x32 ![0, 1] bcast_S1x32_S191x32_0_1 (broadcastInDim S1x32 ![1] bcast_S32_S1x32_1 p))) natLt_1_32 reducesTo_S191x32_S191_d1 h_S_ t (fun e => s.k e ≤ t.val)
    (by
      intro q
      have h1 := s.le q.val
      rw [cmpi_at, bcCols (n := 191) (m := 32), bcRows (n := 191) (m := 32), hp q, muli_ap, bc0, constantI_at, iota1_ap]
      rw [show BitVec.ofNat 32 t.val * 512#32 = BitVec.ofNat 32 (t.val * 512) by rw [BitVec.ofNat_mul]]
      have ht := t.isLt
      rw [cmpi_sge_ofNat (by omega) (by omega)]
      have : (512 * s.k q.val ≤ t.val * 512) ↔ s.k q.val ≤ t.val := by omega
      by_cases h : s.k q.val ≤ t.val <;> simp [this, h])
  show IntOp.minsi (Host.reduce IntOp.addi _ _ _ _ (ix1 t)) (broadcastInDim S191 ![] bcast_S_S191 (constantI S_ 32 31#32) (ix1 t)) = _
  rw [hc, bc0, constantI_at]
  have := Nat.count_le (p := fun e => s.k e ≤ t.val) (n := 32)
  exact minsi_word (b := 31) (by omega) (by omega)

theorem nuS_ap : nuS p ValueIdx.ix0 = BitVec.ofNat 32 s.nu := by
  unfold nuS
  have h1 := s.le 31
  have := pyDiv0_ap (shapeCast S_ (extractStridedSlice S1 ![31] p slices_S32_S1_31) shapeCasts_S1_S_) (constantI S_ 32 512#32)
    (a := 512 * s.k 31) (b := 512) ?_ rfl (by omega) (by omega) (by omega)
  · rw [this, Nat.mul_div_cancel_left _ (by omega)]; rfl
  · rw [shapeCast_apply (extractStridedSlice S1 ![31] p slices_S32_S1_31) shapeCasts_S1_S_ ValueIdx.ix0 (ix1 (0 : Fin 1))
      ((Nat.lt_one_iff.mp (Fin.isLt _)).trans (Nat.lt_one_iff.mp (Fin.isLt _)).symm)]
    rw [slice1 (m := 32) (n := 1) 31 p _ 0 (by decide)]
    exact hp 31

theorem fiT_ap (t : Fin 191) : fiT p (ix1 t) = if s.fi t.val then 1#32 else 0#32 := by
  unfold fiT
  have h2 := s.le 31
  have ht := t.isLt
  rw [select_at, cmpi_at, bc0, bc0, constantI_at, nuS_ap p s hp, iota1_ap, cmpi_slt_ofNat (by omega) (by unfold Segs.nu; omega)]
  have hcat : concatenate S191 0 [⟨S1, broadcastInDim S1 ![] bcast_S_S1 (constantI S_ 32 1#32)⟩,
      ⟨S190, extui 32 (cmpi .ne (extractStridedSlice S190 ![1] (beT p) slices_S191_S190_1) (extractStridedSlice S190 ![0] (beT p) slices_S191_S190_0)) natLt_1_32⟩] concatenates_S1_S190_S191_d0 (ix1 t)
      = if (t.val = 0 ∨ s.be t.val ≠ s.be (t.val - 1)) then 1#32 else 0#32 := by
    by_cases h0 : t.val = 0
    · rw [concatenate_pair_apply_left (s₁ := S1) (s₂ := S190) (t := S191) 0 _ _ _ (ix1 t) rfl (ix1 (0 : Fin 1)) (by
        intro b
        match b with
        | ⟨0, _⟩ => exact h0.symm)]
      rw [bc0, constantI_at, if_pos (Or.inl h0)]
    · rw [concatenate_pair_apply_right (s₁ := S1) (s₂ := S190) (t := S191) 0 _ _ _ (ix1 t) rfl rfl (ix1 (⟨t.val - 1, by omega⟩ : Fin 190)) (by
        intro b hb
        match b, hb with
        | ⟨0, _⟩, hb => exact absurd rfl hb) (by show t.val - 1 + 1 = t.val; omega)]
      rw [extui_at, cmpi_at, slice1 (m := 191) (n := 190) 1 (beT p) _ _ (by show 1 + (t.val - 1) < 191; omega), slice1 (m := 191) (n := 190) 0 (beT p) _ _ (by show 0 + (t.val - 1) < 191; omega),
        beT_ap p s hp, beT_ap p s hp]
      have e1 : 1 + (t.val - 1) = t.val := by omega
      have e0 : 0 + (t.val - 1) = t.val - 1 := by omega
      have l1 : s.be t.val ≤ 31 := min_le_right _ _
      have l0 : s.be (t.val - 1) ≤ 31 := min_le_right _ _
      dsimp only
      rw [e1, e0, cmpi_ne_ofNat (by omega) (by omega)]
      by_cases h : s.be t.val = s.be (t.val - 1) <;> simp [h, h0]
  rw [hcat]
  unfold Segs.fi
  by_cases hn : t.val < s.nu <;> by_cases hb : (t.val = 0 ∨ s.be t.val ≠ s.be (t.val - 1)) <;> simp [hn, hb, Scalar.select]

theorem afT_ap (t : Fin 191) : afT p (ix1 t) = BitVec.ofNat 32 (s.aft t.val) := by
  unfold afT
  have hb : s.be t.val ≤ 31 := min_le_right _ _
  have h1 := s.le (s.be t.val)
  have := pyDiv_ap bcast_S_S191 (Host.gather gather_S32_S191x1_S191_n_0_n_n_0_1_1 p
    (broadcastInDim S191x1 ![0] bcast_S191_S191x1_0 (select (cmpi .slt (beT p) (broadcastInDim S191 ![] bcast_S_S191 (constantI S_ 32 0#32)))
      (addi (beT p) (broadcastInDim S191 ![] bcast_S_S191 (constantI S_ 32 32#32))) (beT p)))) (constantI S_ 32 512#32) (ix1 t)
    (a := 512 * s.k (s.be t.val)) (b := 512) ?_ rfl (by omega) (by omega) (by omega)
  · rw [this, Nat.mul_div_cancel_left _ (by omega)]; rfl
  · rw [gather_take1 (N := 32) (n := 191) _ rfl rfl rfl rfl p _ t ⟨s.be t.val, by omega⟩ ?_ (by omega)]
    · exact hp ⟨s.be t.val, by omega⟩
    · rw [bcCol (n := 191), select_at, cmpi_at, bc0, constantI_at, beT_ap p s hp t]
      rw [show (0#32 : BitVec 32) = BitVec.ofNat 32 0 from rfl, cmpi_slt_ofNat (by omega) (by omega)]
      simp [Scalar.select]

theorem hnT_ap (t : Fin 191) : hnT p (ix1 t) = if s.hn t.val then 1#32 else 0#32 := by
  unfold hnT
  have h1 := s.le (s.be t.val)
  have h2 := s.le 31
  rw [extui_at, andi_at, cmpi_at, cmpi_at, bc0, bc0, constantI_at, fiT_ap p s hp t, afT_ap p s hp t, nuS_ap p s hp]
  rw [cmpi_slt_ofNat (by unfold Segs.aft; omega) (by unfold Segs.nu; omega)]
  unfold Segs.hn
  cases s.fi t.val <;> by_cases h : s.aft t.val < s.nu <;> simp [h] <;> decide

theorem nxT_ap (t : Fin 191) : nxT p (ix1 t) = BitVec.ofNat 32 (s.nx t.val) := by
  unfold nxT
  have h1 := s.le (s.be t.val)
  rw [gather_take1 (N := 191) (n := 191) _ rfl rfl rfl rfl (beT p) _ t ⟨min (s.aft t.val) 190, by omega⟩ ?_ (by omega)]
  · exact beT_ap p s hp _
  · have hm : minsi (afT p) (broadcastInDim S191 ![] bcast_S_S191 (constantI S_ 32 190#32)) (ix1 t) = BitVec.ofNat 32 (min (s.aft t.val) 190) := by
      show IntOp.minsi (afT p (ix1 t)) (broadcastInDim S191 ![] bcast_S_S191 (constantI S_ 32 190#32) (ix1 t)) = _
      rw [bc0, constantI_at, afT_ap p s hp t]
      exact minsi_word (b := 190) (by unfold Segs.aft; omega) (by omega)
    dsimp only
    rw [bcCol (n := 191), select_at, cmpi_at, bc0, constantI_at, hm]
    rw [show (0#32 : BitVec 32) = BitVec.ofNat 32 0 from rfl, cmpi_slt_ofNat (by omega) (by omega)]
    simp [Scalar.select]

end Cert.KernelIdeal.Moe

end
-- ==== Proof.State.lean ====
/- What the call carries from one grid point to the next: the experts' weights in the working buffers, and the two
   transfers that bring in the next expert's, in flight or not begun. -/
module

public import proofs.«01_k».proof.Proof.Setup
public import Idealize.ShloMosaic.Lib.Tactic
public import Idealize.ShloMosaic.Lib.VecWindow

@[expose] public section

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The word the body reads from a table of 191 words, and from the table of one word. -/
abbrev rd (c : Dev nD) (M : Memref sig .tc .smem S191 .i32) (off : Fin 1 → ℕ) (h : ∀ a, off a + S1.size a ≤ S191.size a) (x : BufOf (F := F) c M) : BitVec 32 :=
  M.view.readAt (Elt F) (Rect.unit (s := S191) off S1.size h).toLoadRect x (Shape.Idx.first (numel1_S1.symm ▸ Nat.one_pos))
abbrev rd1 (c : Dev nD) (x : BufOf (F := F) c tbM2) : BitVec 32 :=
  tbM2.view.readAt (Elt F) (Rect.unit (s := S1) ![0] S1.size inb_S1_S1_0).toLoadRect x (Shape.Idx.first (numel1_S1.symm ▸ Nat.one_pos))

theorem inbGu (e : Fin 32) : ∀ a, (![e.val, 0, 0] : Fin 3 → ℕ) a + S1x1024x2048.size a ≤ S32x1024x2048.size a := by
  have := e.isLt
  intro a; fin_cases a
  · show e.val + 1 ≤ 32; omega
  · show 0 + 1024 ≤ 1024; omega
  · show 0 + 2048 ≤ 2048; omega
theorem inbD (e : Fin 32) : ∀ a, (![e.val, 0, 0] : Fin 3 → ℕ) a + S1x1024x1024.size a ≤ S32x1024x1024.size a := by
  have := e.isLt
  intro a; fin_cases a
  · show e.val + 1 ≤ 32; omega
  · show 0 + 1024 ≤ 1024; omega
  · show 0 + 1024 ≤ 1024; omega

/-- An expert's two weight matrices. -/
def wguAt (c : Dev nD) (g0 : BufOf (F := F) c hbM0) (e : Fin 32) : Vec F S1024x2048 .f32 := (wguM ![e.val, 0, 0] (inbGu e)).view.read (Elt F) g0
def wdAt (c : Dev nD) (g1 : BufOf (F := F) c hbM1) (e : Fin 32) : Vec F S1024x1024 .f32 := (wdM ![e.val, 0, 0] (inbD e)).view.read (Elt F) g1

theorem wgu_off (c : Dev nD) (g0 : BufOf (F := F) c hbM0) (e : Fin 32) (off : Fin 3 → ℕ) (h : ∀ a, off a + S1x1024x2048.size a ≤ S32x1024x2048.size a)
    (ho : off = ![e.val, 0, 0]) : (wguM off h).view.read (Elt F) g0 = wguAt c g0 e := by subst ho; rfl
theorem wd_off (c : Dev nD) (g1 : BufOf (F := F) c hbM1) (e : Fin 32) (off : Fin 3 → ℕ) (h : ∀ a, off a + S1x1024x1024.size a ≤ S32x1024x1024.size a)
    (ho : off = ![e.val, 0, 0]) : (wdM off h).view.read (Elt F) g1 = wdAt c g1 e := by subst ho; rfl

/-- The five tables at the share the body keeps. -/
abbrev Tabs (c : Dev nD) (t0 : BufOf (F := F) c tbM0) (t1 : BufOf (F := F) c tbM1) (t2 : BufOf (F := F) c tbM2) (t3 : BufOf (F := F) c tbM3) (t4 : BufOf (F := F) c tbM4) : sProp (MM F) :=
  iprop(halfPt c tbM0 t0 ∗ halfPt c tbM1 t1 ∗ halfPt c tbM2 t2 ∗ halfPt c tbM3 t3 ∗ halfPt c tbM4 t4)

/-- The rounded weights the multiplications read: of no expert yet, or of expert `e`. -/
def Bufs (c : Dev nD) (g0 : BufOf (F := F) c hbM0) (g1 : BufOf (F := F) c hbM1) : Option (Fin 32) → sProp (MM F)
  | none => iprop((∃ f, fullPt c scM0 f) ∗ (∃ f, fullPt c scM1 f))
  | some e => iprop((∃ f, ⌜scM0.view.read (Elt F) f = k0_pay1 (wguAt c g0 e)⌝ ∗ fullPt c scM0 f) ∗ (∃ f, ⌜scM1.view.read (Elt F) f = k0_pay2 (wdAt c g1 e)⌝ ∗ fullPt c scM1 f))

/-- The two transfers: not begun, or bringing in expert `e`. -/
def Xfer (c : Dev nD) (g0 : BufOf (F := F) c hbM0) (g1 : BufOf (F := F) c hbM1) : Option (Fin 32) → sProp (MM F)
  | none => iprop(((∃ f, fullPt c scM2 f) ∗ (∃ f, fullPt c scM3 f)) ∗ semVal ((c : Thread nD τ), SemLoc.dma 8) 0 ∗ semVal ((c : Thread nD τ), SemLoc.dma 9) 0
      ∗ fullPt c hbM0 g0 ∗ fullPt c hbM1 g1)
  | some e => iprop(∃ l2 l3, ⌜scM2.view.read (Elt F) l2 = wguAt c g0 e⌝ ∗ ⌜scM3.view.read (Elt F) l3 = wdAt c g1 e⌝
      ∗ Transfers.Flight countersEmb (c : Thread nD τ) (SemLoc.dma 8) default 262144
          iprop(fullPt c scM2 l2 ∗ (hbM0.view.loc (c : Thread nD τ) ↦[(wguM ![e.val, 0, 0] (inbGu e)).view.set]{fullShare} g0))
      ∗ (hbM0.view.loc (c : Thread nD τ) ↦[Finset.univ \ (wguM ![e.val, 0, 0] (inbGu e)).view.set]{fullShare} g0)
      ∗ Transfers.Flight countersEmb (c : Thread nD τ) (SemLoc.dma 9) default 131072
          iprop(fullPt c scM3 l3 ∗ (hbM1.view.loc (c : Thread nD τ) ↦[(wdM ![e.val, 0, 0] (inbD e)).view.set]{fullShare} g1))
      ∗ (hbM1.view.loc (c : Thread nD τ) ↦[Finset.univ \ (wdM ![e.val, 0, 0] (inbD e)).view.set]{fullShare} g1))

theorem Bufs_none (c : Dev nD) (g0 : BufOf (F := F) c hbM0) (g1 : BufOf (F := F) c hbM1) :
    Bufs c g0 g1 none = iprop((∃ f, fullPt c scM0 f) ∗ (∃ f, fullPt c scM1 f)) := rfl
theorem Bufs_some (c : Dev nD) (g0 : BufOf (F := F) c hbM0) (g1 : BufOf (F := F) c hbM1) (e : Fin 32) :
    Bufs c g0 g1 (some e) = iprop((∃ f, ⌜scM0.view.read (Elt F) f = k0_pay1 (wguAt c g0 e)⌝ ∗ fullPt c scM0 f) ∗ (∃ f, ⌜scM1.view.read (Elt F) f = k0_pay2 (wdAt c g1 e)⌝ ∗ fullPt c scM1 f)) := rfl
theorem Xfer_none (c : Dev nD) (g0 : BufOf (F := F) c hbM0) (g1 : BufOf (F := F) c hbM1) :
    Xfer c g0 g1 none = iprop(((∃ f, fullPt c scM2 f) ∗ (∃ f, fullPt c scM3 f)) ∗ semVal ((c : Thread nD τ), SemLoc.dma 8) 0 ∗ semVal ((c : Thread nD τ), SemLoc.dma 9) 0
      ∗ fullPt c hbM0 g0 ∗ fullPt c hbM1 g1) := rfl
theorem Xfer_some (c : Dev nD) (g0 : BufOf (F := F) c hbM0) (g1 : BufOf (F := F) c hbM1) (e : Fin 32) :
    Xfer c g0 g1 (some e) = iprop(∃ l2 l3, ⌜scM2.view.read (Elt F) l2 = wguAt c g0 e⌝ ∗ ⌜scM3.view.read (Elt F) l3 = wdAt c g1 e⌝
      ∗ Transfers.Flight countersEmb (c : Thread nD τ) (SemLoc.dma 8) default 262144
          iprop(fullPt c scM2 l2 ∗ (hbM0.view.loc (c : Thread nD τ) ↦[(wguM ![e.val, 0, 0] (inbGu e)).view.set]{fullShare} g0))
      ∗ (hbM0.view.loc (c : Thread nD τ) ↦[Finset.univ \ (wguM ![e.val, 0, 0] (inbGu e)).view.set]{fullShare} g0)
      ∗ Transfers.Flight countersEmb (c : Thread nD τ) (SemLoc.dma 9) default 131072
          iprop(fullPt c scM3 l3 ∗ (hbM1.view.loc (c : Thread nD τ) ↦[(wdM ![e.val, 0, 0] (inbD e)).view.set]{fullShare} g1))
      ∗ (hbM1.view.loc (c : Thread nD τ) ↦[Finset.univ \ (wdM ![e.val, 0, 0] (inbD e)).view.set]{fullShare} g1)) := rfl

/-- What a transfer of an expert's weights leaves in the landing buffers. -/
abbrev land2 (c : Dev nD) (g0 : BufOf (F := F) c hbM0) (s2 : BufOf (F := F) c scM2) (off : Fin 3 → ℕ)
    (h : ∀ a, off a + S1x1024x2048.size a ≤ S32x1024x2048.size a) : BufOf (F := F) c scM2 :=
  scM2.view.write (Elt F) s2 ((wguM off h).view.read (Elt F) g0) Finset.univ
abbrev land3 (c : Dev nD) (g1 : BufOf (F := F) c hbM1) (s3 : BufOf (F := F) c scM3) (off : Fin 3 → ℕ)
    (h : ∀ a, off a + S1x1024x1024.size a ≤ S32x1024x1024.size a) : BufOf (F := F) c scM3 :=
  scM3.view.write (Elt F) s3 ((wdM off h).view.read (Elt F) g1) Finset.univ
theorem read_land2 (c : Dev nD) (g0 : BufOf (F := F) c hbM0) (s2 : BufOf (F := F) c scM2) (off : Fin 3 → ℕ)
    (h : ∀ a, off a + S1x1024x2048.size a ≤ S32x1024x2048.size a) (e : Fin 32) (ho : off = ![e.val, 0, 0]) :
    scM2.view.read (Elt F) (land2 c g0 s2 off h) = wguAt c g0 e := (View.read_write_univ _ _).trans (wgu_off c g0 e off h ho)
theorem read_land3 (c : Dev nD) (g1 : BufOf (F := F) c hbM1) (s3 : BufOf (F := F) c scM3) (off : Fin 3 → ℕ)
    (h : ∀ a, off a + S1x1024x1024.size a ≤ S32x1024x1024.size a) (e : Fin 32) (ho : off = ![e.val, 0, 0]) :
    scM3.view.read (Elt F) (land3 c g1 s3 off h) = wdAt c g1 e := (View.read_write_univ _ _).trans (wd_off c g1 e off h ho)

theorem inbGu_of {off : Fin 3 → ℕ} {e : Fin 32} (ho : off = ![e.val, 0, 0]) : ∀ a, off a + S1x1024x2048.size a ≤ S32x1024x2048.size a := by
  subst ho; exact inbGu e
theorem inbD_of {off : Fin 3 → ℕ} {e : Fin 32} (ho : off = ![e.val, 0, 0]) : ∀ a, off a + S1x1024x1024.size a ≤ S32x1024x1024.size a := by
  subst ho; exact inbD e

/-- A store of the converted weights over the whole working buffer, read back. -/
theorem cov0 (c : Dev nD) (l2 : BufOf (F := F) c scM2) (w : Vec F S1024x2048 .f32) (h : scM2.view.read (Elt F) l2 = w) :
    scM0.view.readCov (Val := Elt F) [⟨Rect.unit ![0, 0] S1024x2048.size inb_S1024x2048_S1024x2048_0_0,
            k0_pay1 (View.readAt (Elt F) scM2.view (Rect.unit ![0, 0] S1024x2048.size inb_S1024x2048_S1024x2048_0_0).toLoadRect l2)⟩]
        (Rect.unit ![0, 0] S1024x2048.size inb_S1024x2048_S1024x2048_0_0).toLoadRect = k0_pay1 w := by
  refine (View.readCov_full _ _ _ _ _).trans ?_
  rw [View.readAt_full, h]
theorem cov1 (c : Dev nD) (l3 : BufOf (F := F) c scM3) (w : Vec F S1024x1024 .f32) (h : scM3.view.read (Elt F) l3 = w) :
    scM1.view.readCov (Val := Elt F) [⟨Rect.unit ![0, 0] S1024x1024.size inb_S1024x1024_S1024x1024_0_0,
            k0_pay2 (View.readAt (Elt F) scM3.view (Rect.unit ![0, 0] S1024x1024.size inb_S1024x1024_S1024x1024_0_0).toLoadRect l3)⟩]
        (Rect.unit ![0, 0] S1024x1024.size inb_S1024x1024_S1024x1024_0_0).toLoadRect = k0_pay2 w := by
  refine (View.readCov_full _ _ _ _ _).trans ?_
  rw [View.readAt_full, h]

theorem xfer_some (c : Dev nD) (g0 : BufOf (F := F) c hbM0) (g1 : BufOf (F := F) c hbM1) (e : Fin 32)
    (off0 off1 : Fin 3 → ℕ) (h0 : ∀ a, off0 a + S1x1024x2048.size a ≤ S32x1024x2048.size a) (h1 : ∀ a, off1 a + S1x1024x1024.size a ≤ S32x1024x1024.size a)
    (ho0 : off0 = ![e.val, 0, 0]) (ho1 : off1 = ![e.val, 0, 0]) (s2 : BufOf (F := F) c scM2) (s3 : BufOf (F := F) c scM3) :
    iprop(Transfers.Flight countersEmb (c : Thread nD τ) (SemLoc.dma 8) default 262144
          iprop(fullPt c scM2 (scM2.view.write (Elt F) s2 ((wguM off0 h0).view.read (Elt F) g0) Finset.univ) ∗ (hbM0.view.loc (c : Thread nD τ) ↦[(wguM off0 h0).view.set]{fullShare} g0))
      ∗ (hbM0.view.loc (c : Thread nD τ) ↦[Finset.univ \ (wguM off0 h0).view.set]{fullShare} g0)
      ∗ Transfers.Flight countersEmb (c : Thread nD τ) (SemLoc.dma 9) default 131072
          iprop(fullPt c scM3 (scM3.view.write (Elt F) s3 ((wdM off1 h1).view.read (Elt F) g1) Finset.univ) ∗ (hbM1.view.loc (c : Thread nD τ) ↦[(wdM off1 h1).view.set]{fullShare} g1))
      ∗ (hbM1.view.loc (c : Thread nD τ) ↦[Finset.univ \ (wdM off1 h1).view.set]{fullShare} g1))
    ⊢ Xfer c g0 g1 (some e) := by
  subst ho0 ho1
  show _ ⊢ iprop(∃ l2 l3, _)
  iintro ⟨A, B, C, D⟩
  iexists (scM2.view.write (Elt F) s2 ((wguM ![e.val, 0, 0] h0).view.read (Elt F) g0) Finset.univ), (scM3.view.write (Elt F) s3 ((wdM ![e.val, 0, 0] h1).view.read (Elt F) g1) Finset.univ)
  isplitr; · ipureintro; exact View.read_write_univ _ _
  isplitr; · ipureintro; exact View.read_write_univ _ _
  isplitl [A]; · iexact A
  isplitl [B]; · iexact B
  isplitl [C]; · iexact C
  iexact D

theorem bufs_some (c : Dev nD) (g0 : BufOf (F := F) c hbM0) (g1 : BufOf (F := F) c hbM1) (e : Fin 32) (s0 : BufOf (F := F) c scM0) (s1 : BufOf (F := F) c scM1)
    (l2 : BufOf (F := F) c scM2) (l3 : BufOf (F := F) c scM3) (hl2 : scM2.view.read (Elt F) l2 = wguAt c g0 e) (hl3 : scM3.view.read (Elt F) l3 = wdAt c g1 e) :
    iprop(fullPt c scM0 (scM0.view.writes (Elt F) s0 [⟨Rect.unit ![0, 0] S1024x2048.size inb_S1024x2048_S1024x2048_0_0,
            k0_pay1 (View.readAt (Elt F) scM2.view (Rect.unit ![0, 0] S1024x2048.size inb_S1024x2048_S1024x2048_0_0).toLoadRect l2)⟩])
        ∗ fullPt c scM1 (scM1.view.writes (Elt F) s1 [⟨Rect.unit ![0, 0] S1024x1024.size inb_S1024x1024_S1024x1024_0_0,
            k0_pay2 (View.readAt (Elt F) scM3.view (Rect.unit ![0, 0] S1024x1024.size inb_S1024x1024_S1024x1024_0_0).toLoadRect l3)⟩]))
    ⊢ Bufs c g0 g1 (some e) := by
  show _ ⊢ iprop((∃ f, _) ∗ (∃ f, _))
  iintro ⟨A, B⟩
  isplitl [A]
  · iexists _; isplitr; swap; · iexact A
    ipureintro; rw [View.readAt_full, hl2]; exact View.read_writes_full _ _ _ _ _
  · iexists _; isplitr; swap; · iexact B
    ipureintro; rw [View.readAt_full, hl3]; exact View.read_writes_full _ _ _ _ _

end Cert.KernelIdeal.Moe

end
-- ==== Proof.Words.lean ====
/- The words the body reads, the conditions it tests on them, and what the tables must say for the transfers to bring
   in the right experts. -/
module

public import proofs.«01_k».proof.Proof.State
public import Idealize.ShloMosaic.Lib.WordCmp
public import Idealize.ShloMosaic.Lib.Affine

@[expose] public section

noncomputable section

namespace Cert.KernelIdeal.Moe

open Idealize.ShloMosaic Idealize.ShloMosaic.TcCoe Idealize.ShloMosaic.Tactic
open Cert.KernelIdeal Cert.KernelIdeal.Gen

variable {F : FTy → Type} [FloatOps F]

/-- The one coordinate of an index of a table. -/
def ix191 (t : Fin 191) : S191.Idx := fun a => ⟨t.val, by have := t.isLt; fin_cases a; exact this⟩
def ix1 : S1.Idx := fun a => ⟨0, by fin_cases a; exact Nat.one_pos⟩

theorem rd0_eq (c : Dev nD) (off : Fin 1 → ℕ) (h : ∀ a, off a + S1.size a ≤ S191.size a) (x : BufOf (F := F) c tbM0) (t : Fin 191) (ho : off = ![t.val]) :
    rd c tbM0 off h x = x (ix191 t) := by
  subst ho; exact congrArg x (funext fun a => Fin.ext (by fin_cases a; rfl))
theorem rdF_eq (c : Dev nD) (off : Fin 1 → ℕ) (h : ∀ a, off a + S1.size a ≤ S191.size a) (x : BufOf (F := F) c tbM1) (t : Fin 191) (ho : off = ![t.val]) :
    rd c tbM1 off h x = x (ix191 t) := by
  subst ho; exact congrArg x (funext fun a => Fin.ext (by fin_cases a; rfl))
theorem rdN_eq (c : Dev nD) (off : Fin 1 → ℕ) (h : ∀ a, off a + S1.size a ≤ S191.size a) (x : BufOf (F := F) c tbM3) (t : Fin 191) (ho : off = ![t.val]) :
    rd c tbM3 off h x = x (ix191 t) := by
  subst ho; exact congrArg x (funext fun a => Fin.ext (by fin_cases a; rfl))
theorem rdH_eq (c : Dev nD) (off : Fin 1 → ℕ) (h : ∀ a, off a + S1.size a ≤ S191.size a) (x : BufOf (F := F) c tbM4) (t : Fin 191) (ho : off = ![t.val]) :
    rd c tbM4 off h x = x (ix191 t) := by
  subst ho; exact congrArg x (funext fun a => Fin.ext (by fin_cases a; rfl))
theorem rd1_eq (c : Dev nD) (x : BufOf (F := F) c tbM2) : rd1 c x = x ix1 :=
  congrArg x (funext fun a => Fin.ext (by fin_cases a; rfl))

theorem ne_ext (b : BitVec 1) : Scalar.cmpi .ne (Scalar.extui b : BitVec 32) 0#32 = b := by
  revert b; decide

theorem cond1_one : k0_cond1 1#32 = 1#1 := by decide
theorem cond1_zero : ¬ k0_cond1 0#32 = 1#1 := by decide
theorem cond3_one : k0_cond3 1#32 = 1#1 := by decide
theorem cond3_zero : ¬ k0_cond3 0#32 = 1#1 := by decide
theorem cond2_iff : ∀ i : grid0.Coords, k0_cond2 i = 1#1 ↔ (i 0).val = 0 := by decide +kernel

theorem cond4_slt (i : grid0.Coords) (v : BitVec 32) : k0_cond4 i v = IntOp.cmpi .slt (BitVec.ofNat 32 (i 0).val) v := ne_ext _
theorem cond5_sge (i : grid0.Coords) (v : BitVec 32) : k0_cond5 i v = IntOp.cmpi .sge (BitVec.ofNat 32 (i 0).val) v := ne_ext _
theorem cond4_iff (i : grid0.Coords) (n : ℕ) (hn : n ≤ 191) : k0_cond4 i (BitVec.ofNat 32 n) = 1#1 ↔ (i 0).val < n := by
  have hi : (i 0).val < 191 := (i 0).isLt
  rw [cond4_slt]
  exact WordCmp.cmpi_slt_ofNat_eq_one_iff (by omega) (by omega)
theorem cond45 (i : grid0.Coords) (v : BitVec 32) : k0_cond5 i v = 1#1 ↔ ¬ k0_cond4 i v = 1#1 := by
  rw [cond4_slt, cond5_sge, IntOp.cmpi_slt, IntOp.cmpi_sge]
  exact Int.not_lt.symm

/-- The grid point of a step. -/
theorem coords_val (t : Fin grid0.N) : (grid0.coords t 0).val = t.val := by
  revert t; decide +kernel

variable (m : (ℓ : Loc nD τ sig) → Buf (Elt F) ℓ)

/-- What the tables say, in numbers: the expert of each block, the experts sent for, which blocks begin an expert's rows,
    which of those send for another, how many blocks are used; what is in flight (`pn`) and what is loaded (`ld`) before each
    point, and that the point that begins an expert's rows finds that expert in flight. -/
structure Sched where
  be : Fin 191 → Fin 32
  nx : Fin 191 → Fin 32
  fi : Fin 191 → Bool
  hn : Fin 191 → Bool
  nu : ℕ
  pn : ℕ → Option (Fin 32)
  ld : ℕ → Option (Fin 32)
  tb : ∀ t, tbl m 0 (ix191 t) = BitVec.ofNat 32 (be t).val
  tf : ∀ t, tbl m 1 (ix191 t) = if fi t then 1#32 else 0#32
  tu : tbl m 2 ix1 = BitVec.ofNat 32 nu
  tn : ∀ t, tbl m 3 (ix191 t) = BitVec.ofNat 32 (nx t).val
  th : ∀ t, tbl m 4 (ix191 t) = if hn t then 1#32 else 0#32
  hu : nu ≤ 191
  fu : ∀ t, fi t = true → t.val < nu
  pn0 : pn 0 = none
  ld0 : ld 0 = none
  fp : ∀ t, fi t = true → t.val ≠ 0 → pn t.val = some (be t)
  sp : ∀ t, fi t = true → pn (t.val + 1) = if hn t then some (nx t) else none
  sl : ∀ t, fi t = true → ld (t.val + 1) = some (be t)
  kp : ∀ t, fi t = false → pn (t.val + 1) = pn t.val
  kl : ∀ t, fi t = false → ld (t.val + 1) = ld t.val
  us : ∀ t : Fin 191, t.val < nu → ld (t.val + 1) = some (be t)
  pe : pn 191 = none

end Cert.KernelIdeal.Moe

end
-- ==== Proof.Admit.lean ====
/- What the precondition says of the segment ends, and the schedule and the side condition that follow. -/
module

public import proofs.«01_k».proof.Proof.Tables
public import proofs.«01_k».proof.Proof.Words
public import proofs.«01_k».proof.Pre_pend_in_blocks
public import proofs.«01_k».proof.Proof.Gen.Pre_pend_in_blocks

@[expose] public section

set_option maxRecDepth 16384
set_option maxHeartbeats 400000

noncomputable section

namespace Cert.KernelIdeal.Moe

open Idealize.ShloMosaic Idealize.ShloMosaic.TcCoe Idealize.ShloMosaic.StableHlo
open WordCmp
open Cert.KernelIdeal Cert.KernelIdeal.Gen

/-! ## The precondition, decoded -/

theorem and1 (a b : BitVec 1) : a &&& b = 1#1 ↔ a = 1#1 ∧ b = 1#1 := by revert a b; decide

theorem sle1 (a b : BitVec 32) : IntOp.cmpi .sle a b = 1#1 ↔ a.toInt ≤ b.toInt := by
  simp only [IntOp.cmpi, BitVec.sle_eq_decide]
  by_cases h : a.toInt ≤ b.toInt <;> simp [h]

theorem toNat_of_nonneg {a : BitVec 32} (h : 0 ≤ a.toInt) : (a.toNat : ℤ) = a.toInt := by
  have hl := a.isLt
  rw [BitVec.toInt_eq_toNat_cond] at h ⊢
  by_cases hc : 2 * a.toNat < 2 ^ 32
  · rw [if_pos hc]
  · rw [if_neg hc] at h; omega

section Decode
variable {F : FTy → Type} [FloatOps F] (p : IVec S32 32) (a1 : IVec S99072x512 32) (a2 : FVec F S1x32x1024x2048 .f32)
  (a3 : FVec F S1x32x2048 .f32) (a4 : FVec F S1x32x1024x1024 .f32) (a5 : FVec F S1x32x1024 .f32)

theorem decode1 (h : Cert.Pre_pend_in_blocks.fn (F := F) p a1 a2 a3 a4 a5 = fun _ => 1#1) (e : Fin 32) :
    (∀ he : 0 < e.val, (p (ValueIdx.ix1 (⟨e.val - 1, by omega⟩ : Fin 32))).toInt ≤ (p (ValueIdx.ix1 e)).toInt) ∧
    (e.val = 0 → 0 ≤ (p (ValueIdx.ix1 e)).toInt) ∧
    (p (ValueIdx.ix1 e)).toInt ≤ 97792 ∧ (p (ValueIdx.ix1 e)) &&& 511#32 = 0#32 := by
  have h := congrFun h (ValueIdx.ix1 e)
  unfold Cert.Pre_pend_in_blocks.fn at h
  have hl := e.isLt
  dsimp only at h
  rw [andi_at, andi_at, cmpi_at, cmpi_at, cmpi_at, andi_at, Routing.bc0, Routing.bc0, Routing.bc0, constantI_at, constantI_at, constantI_at] at h
  have h := (and1 _ _).mp h
  obtain ⟨h12, h3⟩ := h
  have h12 := (and1 _ _).mp h12
  obtain ⟨h1, h2⟩ := h12
  rw [sle1] at h1 h2
  rw [StableHlo.Predicate.cmpi_eq_iff] at h3
  refine ⟨fun he => ?_, fun he => ?_, h2, h3⟩
  · rw [concatenate_pair_apply_right (s₁ := Cert.Pre_pend_in_blocks.S1) (s₂ := Cert.Pre_pend_in_blocks.S31) (t := Cert.Pre_pend_in_blocks.S32) 0 _ _ _ (ValueIdx.ix1 e) rfl rfl (ValueIdx.ix1 (⟨e.val - 1, by omega⟩ : Fin 31)) (by
        intro b hb
        match b, hb with
        | ⟨0, _⟩, hb => exact absurd rfl hb) (by show e.val - 1 + 1 = e.val; omega),
      Routing.slice1 (m := 32) (n := 31) 0 p _ _ (by show 0 + (e.val - 1) < 32; omega)] at h1
    refine le_trans (le_of_eq ?_) h1
    congr 3
    exact Fin.ext (by show e.val - 1 = 0 + (e.val - 1); omega)
  · rw [concatenate_pair_apply_left (s₁ := Cert.Pre_pend_in_blocks.S1) (s₂ := Cert.Pre_pend_in_blocks.S31) (t := Cert.Pre_pend_in_blocks.S32) 0 _ _ _ (ValueIdx.ix1 e) rfl (ValueIdx.ix1 (0 : Fin 1)) (by
        intro b
        match b with
        | ⟨0, _⟩ => exact he.symm), Routing.bc0, constantI_at] at h1
    exact h1

theorem decode (h : Cert.Pre_pend_in_blocks.fn (F := F) p a1 a2 a3 a4 a5 = fun _ => 1#1) :
    ∃ s : Segs, ∀ e : Fin 32, p (ValueIdx.ix1 e) = BitVec.ofNat 32 (512 * s.k e.val) := by
  have hd := decode1 p a1 a2 a3 a4 a5 h
  have hnn : ∀ n (hn : n < 32), 0 ≤ (p (ValueIdx.ix1 (⟨n, hn⟩ : Fin 32))).toInt := by
    intro n
    induction n with
    | zero => intro hn; exact (hd ⟨0, hn⟩).2.1 rfl
    | succ n ih => intro hn; exact (ih (by omega)).trans ((hd ⟨n + 1, hn⟩).1 (by show 0 < n + 1; omega))
  have hstep : ∀ n (hn : n + 1 < 32), (p (ValueIdx.ix1 (⟨n, by omega⟩ : Fin 32))).toNat ≤ (p (ValueIdx.ix1 (⟨n + 1, hn⟩ : Fin 32))).toNat := by
    intro n hn
    have h1 := (hd ⟨n + 1, hn⟩).1 (by show 0 < n + 1; omega)
    have e1 := toNat_of_nonneg (hnn n (by omega))
    have e2 := toNat_of_nonneg (hnn (n + 1) hn)
    have h1 : (p (ValueIdx.ix1 (⟨n, by omega⟩ : Fin 32))).toInt ≤ (p (ValueIdx.ix1 (⟨n + 1, hn⟩ : Fin 32))).toInt := h1
    omega
  let k : ℕ → ℕ := fun e => (p (ValueIdx.ix1 (⟨min e 31, by omega⟩ : Fin 32))).toNat / 512
  refine ⟨⟨k, monotone_nat_of_le_succ fun n => ?_, fun n => ?_⟩, fun e => ?_⟩
  · refine Nat.div_le_div_right ?_
    by_cases hn : n + 1 < 32
    · have e1 : min n 31 = n := by omega
      have e2 : min (n + 1) 31 = n + 1 := by omega
      simp only [e1, e2]
      exact hstep n hn
    · have e1 : min n 31 = 31 := by omega
      have e2 : min (n + 1) 31 = 31 := by omega
      simp only [e1, e2]; exact le_refl _
  · have h2 := (hd ⟨min n 31, by omega⟩).2.2.1
    have e1 := toNat_of_nonneg (hnn (min n 31) (by omega))
    show (p (ValueIdx.ix1 (⟨min n 31, by omega⟩ : Fin 32))).toNat / 512 ≤ 191
    have h2 : (p (ValueIdx.ix1 (⟨min n 31, by omega⟩ : Fin 32))).toInt ≤ 97792 := h2
    omega
  · have hl := e.isLt
    have h3 := congrArg BitVec.toNat (hd e).2.2.2
    rw [BitVec.toNat_and] at h3
    have h3 : (p (ValueIdx.ix1 e)).toNat &&& (2 ^ 9 - 1) = 0 := h3
    rw [Nat.and_two_pow_sub_one_eq_mod] at h3
    have e1 : (⟨min e.val 31, by omega⟩ : Fin 32) = e := Fin.ext (by show min e.val 31 = e.val; omega)
    show p (ValueIdx.ix1 e) = BitVec.ofNat 32 (512 * ((p (ValueIdx.ix1 (⟨min e.val 31, by omega⟩ : Fin 32))).toNat / 512))
    rw [e1]
    apply BitVec.eq_of_toNat_eq
    rw [BitVec.toNat_ofNat]
    have := (p (ValueIdx.ix1 e)).isLt
    omega

end Decode

/-! ## The schedule -/

variable {F : FTy → Type} [FloatOps F]
variable (m : (ℓ : Loc nD τ sig) → Buf (Elt F) ℓ)
variable (s : Segs) (hp : ∀ e : Fin 32, (m ((0 : Dev nD), main_arg0) : IVec S32 32) (ValueIdx.ix1 e) = BitVec.ofNat 32 (512 * s.k e.val))

theorem ix191_eq (t : Fin 191) : ix191 t = (ValueIdx.ix1 t : S191.Idx) :=
  funext fun a => match a with
    | ⟨0, _⟩ => rfl

include hp

theorem tb_ap (t : Fin 191) : tbl m 0 (ix191 t) = BitVec.ofNat 32 (s.be t.val) := by
  rw [ix191_eq]
  exact (congrFun (V_be m 0) _).trans (beT_ap _ s hp t)
theorem tf_ap (t : Fin 191) : tbl m 1 (ix191 t) = if s.fi t.val then 1#32 else 0#32 := by
  rw [ix191_eq]
  exact (congrFun (V_fi m 0) _).trans (fiT_ap _ s hp t)
theorem tu_ap : tbl m 2 ix1 = BitVec.ofNat 32 s.nu := by
  refine (congrFun (V_nu m 0) _).trans ?_
  rw [shapeCast_apply _ shapeCasts_S_S1 ix1 ValueIdx.ix0
      ((Nat.lt_one_iff.mp (Fin.isLt _)).trans (Nat.lt_one_iff.mp (Fin.isLt _)).symm)]
  exact nuS_ap _ s hp
theorem tn_ap (t : Fin 191) : tbl m 3 (ix191 t) = BitVec.ofNat 32 (s.nx t.val) := by
  rw [ix191_eq]
  exact (congrFun (V_nx m 0) _).trans (nxT_ap _ s hp t)
theorem th_ap (t : Fin 191) : tbl m 4 (ix191 t) = if s.hn t.val then 1#32 else 0#32 := by
  rw [ix191_eq]
  exact (congrFun (V_hn m 0) _).trans (hnT_ap _ s hp t)

/-- The schedule the tables hold. -/
def sched : Sched m where
  be t := s.beF t.val
  nx t := s.nxF t.val
  fi t := s.fi t.val
  hn t := s.hn t.val
  nu := s.nu
  pn := s.pn
  ld := s.ld
  tb := tb_ap m s hp
  tf := tf_ap m s hp
  tu := tu_ap m s hp
  tn := tn_ap m s hp
  th := th_ap m s hp
  hu := s.nu_le
  fu _ h := s.fi_lt h
  pn0 := rfl
  ld0 := rfl
  fp _ h h0 := s.pn_at_fi h h0
  sp _ h := s.pn_succ_fi h
  sl _ h := s.ld_succ_fi h
  kp _ h := s.pn_succ_not h
  kl _ h := s.ld_succ_not h
  us t h := s.ld_used t.val h
  pe := s.pn_past 191 s.nu_le

omit hp in
theorem tr2 (pf : pre0.Contents (Elt F)) (w : Fin 191 → ℕ) (hw : ∀ t, pf 0 (ix191 t) = BitVec.ofNat 32 (w t)) (hl : ∀ t, w t < 32) : ok0 (F := F) pf := by
  have key : ∀ i : grid0.Coords, ∃ t, pf.at 0 (Rect.unit (s := S191) ![(Scalar.indexCast (BitVec.ofNat 32 (i 0).val) : Index).toNat] S1.size (k0_off1_inb i)) numel1_S1 = BitVec.ofNat 32 (w t) := by
    intro i
    have h0 : (i 0).val < 191 := (i 0).isLt
    refine ⟨⟨(i 0).val, h0⟩, ?_⟩
    rw [← hw]
    refine congrArg (pf 0) (funext fun a => Fin.ext ?_)
    match a with
    | ⟨0, _⟩ =>
      show (BitVec.ofNat 32 (i 0).val).toNat + 1 * 0 = (i 0).val
      rw [BitVec.toNat_ofNat, Nat.mod_eq_of_lt (by omega)]; omega
  refine ⟨fun i => ⟨fun a => ?_, Or.inl rfl⟩, fun i => ⟨fun a => ?_, Or.inl rfl⟩⟩
  all_goals
    obtain ⟨t, ht⟩ := key i
    have hl := hl t
    match a with
    | ⟨0, _⟩ =>
      first
      | (show (BitVec.toNat _ + 1) * 1 ≤ 32
         rw [ht, BitVec.toNat_ofNat]; omega)
    | ⟨1, _⟩ => exact Nat.le_refl _
    | ⟨2, _⟩ => exact Nat.le_refl _

/-- The side condition on the tables. -/
theorem ok : Ok m := tr2 (tbl m) (fun t => s.be t.val) (tb_ap m s hp) fun t => s.be_lt t.val

end Cert.KernelIdeal.Moe

end
-- ==== Proof.RunA.lean ====
/- A point that reads rows of an expert already loaded. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runA (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (e : Fin 32)
    (hc1 : ¬ k0_cond1 (rd c tbM1 (k0_off1 i) (k0_off1_inb i) t1) = 1#1)
    (hc4 : k0_cond4 i (rd1 c t2) = 1#1)
    (hc5 : ¬ k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ Bufs c g0 g1 (some e) ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare (k0_pay3 x6 (k0_pay1 (wguAt c g0 e)) x8 (k0_pay2 (wdAt c g1 e)) x10) ∗ Tabs c t0 t1 t2 t3 t4
            ∗ Bufs c g0 g1 (some e) ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  rw [Bufs_some]; unfold owns
  iintro ⟨⟨%f6, %hf6, H6⟩, ⟨%f8, %hf8, H8⟩, ⟨%f10, %hf10, H10⟩, ⟨%d11, %f11, -, H11⟩, ⟨HT0, HT1, HT2, HT3, HT4⟩, ⟨⟨%s0, %hs0, HS0⟩, ⟨%s1, %hs1, HS1⟩⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    refine congr (congr (congr (congr (congrArg k0_pay3 ((View.readAt_full _ _ _).trans (harg6.read_unread x6))) ((View.readAt_full _ _ _).trans hs0)) ((View.readAt_full _ _ _).trans (harg8.read_unread x8))) ((View.readAt_full _ _ _).trans hs1)) ((View.readAt_full _ _ _).trans (harg10.read_unread x10))
  isplitl [HT0 HT1 HT2 HT3 HT4]
  · isplitl [HT0]; · iexact HT0
    isplitl [HT1]; · iexact HT1
    isplitl [HT2]; · iexact HT2
    isplitl [HT3]; · iexact HT3
    iexact HT4
  isplitl [HS0 HS1]
  · isplitl [HS0]
    · iexists _; isplitr; · ipureintro; exact hs0
      iexact HS0
    · iexists _; isplitr; · ipureintro; exact hs1
      iexact HS1
  iexists _; iexact HW

end Cert.KernelIdeal.Moe

end
-- ==== Proof.RunB.lean ====
/- A point past the last used block: its block is zero. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runB (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (hc1 : ¬ k0_cond1 (rd c tbM1 (k0_off1 i) (k0_off1_inb i) t1) = 1#1)
    (hc4 : ¬ k0_cond4 i (rd1 c t2) = 1#1)
    (hc5 : k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare k0_pay4 ∗ Tabs c t0 t1 t2 t3 t4
            ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  unfold owns
  iintro ⟨⟨%f6, %hf6, H6⟩, ⟨%f8, %hf8, H8⟩, ⟨%f10, %hf10, H10⟩, ⟨%d11, %f11, -, H11⟩, ⟨HT0, HT1, HT2, HT3, HT4⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    rfl
  isplitl [HT0 HT1 HT2 HT3 HT4]
  · isplitl [HT0]; · iexact HT0
    isplitl [HT1]; · iexact HT1
    isplitl [HT2]; · iexact HT2
    isplitl [HT3]; · iexact HT3
    iexact HT4

  iexists _; iexact HW

end Cert.KernelIdeal.Moe

end
-- ==== Proof.RunC.lean ====
/- The first block of all, of the only expert. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runC (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (e : Fin 32)
    (hc1 : k0_cond1 (rd c tbM1 (k0_off1 i) (k0_off1_inb i) t1) = 1#1)
    (hc2 : k0_cond2 i = 1#1)
    (hw1 : k0_chk1 i (rd c tbM1 (k0_off1 i) (k0_off1_inb i) t1) (rd c tbM0 ![0] inb_S191_S1_0 t0))
    (he1 : (rd c tbM0 ![0] inb_S191_S1_0 t0).toNat = e.val)
    (hw2 : k0_chk2 (rd c tbM1 (k0_off1 i) (k0_off1_inb i) t1) (rd c tbM0 (k0_off4 i) (k0_off4_inb i) t0))
    (hc3 : ¬ k0_cond3 (rd c tbM4 (k0_off7 i) (k0_off7_inb i) t4) = 1#1)
    (hc4 : k0_cond4 i (rd1 c t2) = 1#1)
    (hc5 : ¬ k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ Bufs c g0 g1 none ∗ Xfer c g0 g1 none ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare (k0_pay3 x6 (k0_pay1 (wguAt c g0 e)) x8 (k0_pay2 (wdAt c g1 e)) x10) ∗ Tabs c t0 t1 t2 t3 t4
            ∗ Bufs c g0 g1 (some e) ∗ Xfer c g0 g1 none ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  rw [Bufs_none, Xfer_none]; unfold owns
  iintro ⟨⟨%f6, %hf6, H6⟩, ⟨%f8, %hf8, H8⟩, ⟨%f10, %hf10, H10⟩, ⟨%d11, %f11, -, H11⟩, ⟨HT0, HT1, HT2, HT3, HT4⟩, ⟨⟨%s0, HS0⟩, ⟨%s1, HS1⟩⟩, ⟨⟨⟨%s2, HS2⟩, ⟨%s3, HS3⟩⟩, Hq0, Hq1, Hg0, Hg1⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    refine congr (congr (congr (congr (congrArg k0_pay3 ((View.readAt_full _ _ _).trans (harg6.read_unread x6))) (cov0 c _ _ (read_land2 c g0 s2 _ _ e (show k0_off2 (rd c tbM0 ![0] inb_S191_S1_0 t0) = ![e.val, 0, 0] from by rw [← he1]; rfl)))) ((View.readAt_full _ _ _).trans (harg8.read_unread x8))) (cov1 c _ _ (read_land3 c g1 s3 _ _ e (show k0_off3 (rd c tbM0 ![0] inb_S191_S1_0 t0) = ![e.val, 0, 0] from by rw [← he1]; rfl)))) ((View.readAt_full _ _ _).trans (harg10.read_unread x10))
  isplitl [HT0 HT1 HT2 HT3 HT4]
  · isplitl [HT0]; · iexact HT0
    isplitl [HT1]; · iexact HT1
    isplitl [HT2]; · iexact HT2
    isplitl [HT3]; · iexact HT3
    iexact HT4
  isplitl [HS0 HS1]
  · iapply (bufs_some c g0 g1 e s0 s1 (land2 c g0 s2 (k0_off2 (rd c tbM0 ![0] inb_S191_S1_0 t0)) (inbGu_of (show k0_off2 (rd c tbM0 ![0] inb_S191_S1_0 t0) = ![e.val, 0, 0] from by rw [← he1]; rfl))) (land3 c g1 s3 (k0_off3 (rd c tbM0 ![0] inb_S191_S1_0 t0)) (inbD_of (show k0_off3 (rd c tbM0 ![0] inb_S191_S1_0 t0) = ![e.val, 0, 0] from by rw [← he1]; rfl))) (read_land2 c g0 s2 _ _ e (show k0_off2 (rd c tbM0 ![0] inb_S191_S1_0 t0) = ![e.val, 0, 0] from by rw [← he1]; rfl)) (read_land3 c g1 s3 _ _ e (show k0_off3 (rd c tbM0 ![0] inb_S191_S1_0 t0) = ![e.val, 0, 0] from by rw [← he1]; rfl)))
    isplitl [HS0]; · iexact HS0
    iexact HS1
  isplitl [HS2 HS3 Hq0 Hq1 Hg0 Hg1]
  · isplitl [HS2 HS3]
    · isplitl [HS2]; · iexists _; iexact HS2
      iexists _; iexact HS3
    isplitl [Hq0]; · iexact Hq0
    isplitl [Hq1]; · iexact Hq1
    isplitl [Hg0]; · iexact Hg0
    iexact Hg1
  iexists _; iexact HW

end Cert.KernelIdeal.Moe

end
-- ==== Proof.RunD.lean ====
/- The first block of all, a second expert sent for. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runD (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (e e' : Fin 32)
    (hc1 : k0_cond1 (rd c tbM1 (k0_off1 i) (k0_off1_inb i) t1) = 1#1)
    (hc2 : k0_cond2 i = 1#1)
    (hw1 : k0_chk1 i (rd c tbM1 (k0_off1 i) (k0_off1_inb i) t1) (rd c tbM0 ![0] inb_S191_S1_0 t0))
    (he1 : (rd c tbM0 ![0] inb_S191_S1_0 t0).toNat = e.val)
    (hw2 : k0_chk2 (rd c tbM1 (k0_off1 i) (k0_off1_inb i) t1) (rd c tbM0 (k0_off4 i) (k0_off4_inb i) t0))
    (hc3 : k0_cond3 (rd c tbM4 (k0_off7 i) (k0_off7_inb i) t4) = 1#1)
    (hw3 : k0_chk3 (rd c tbM1 (k0_off1 i) (k0_off1_inb i) t1) (rd c tbM4 (k0_off7 i) (k0_off7_inb i) t4) (rd c tbM3 (k0_off8 i) (k0_off8_inb i) t3))
    (he' : (rd c tbM3 (k0_off8 i) (k0_off8_inb i) t3).toNat = e'.val)
    (hc4 : k0_cond4 i (rd1 c t2) = 1#1)
    (hc5 : ¬ k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ Bufs c g0 g1 none ∗ Xfer c g0 g1 none ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare (k0_pay3 x6 (k0_pay1 (wguAt c g0 e)) x8 (k0_pay2 (wdAt c g1 e)) x10) ∗ Tabs c t0 t1 t2 t3 t4
            ∗ Bufs c g0 g1 (some e) ∗ Xfer c g0 g1 (some e') ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  rw [Bufs_none, Xfer_none]; unfold owns
  iintro ⟨⟨%f6, %hf6, H6⟩, ⟨%f8, %hf8, H8⟩, ⟨%f10, %hf10, H10⟩, ⟨%d11, %f11, -, H11⟩, ⟨HT0, HT1, HT2, HT3, HT4⟩, ⟨⟨%s0, HS0⟩, ⟨%s1, HS1⟩⟩, ⟨⟨⟨%s2, HS2⟩, ⟨%s3, HS3⟩⟩, Hq0, Hq1, Hg0, Hg1⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    refine congr (congr (congr (congr (congrArg k0_pay3 ((View.readAt_full _ _ _).trans (harg6.read_unread x6))) (cov0 c _ _ (read_land2 c g0 s2 _ _ e (show k0_off2 (rd c tbM0 ![0] inb_S191_S1_0 t0) = ![e.val, 0, 0] from by rw [← he1]; rfl)))) ((View.readAt_full _ _ _).trans (harg8.read_unread x8))) (cov1 c _ _ (read_land3 c g1 s3 _ _ e (show k0_off3 (rd c tbM0 ![0] inb_S191_S1_0 t0) = ![e.val, 0, 0] from by rw [← he1]; rfl)))) ((View.readAt_full _ _ _).trans (harg10.read_unread x10))
  isplitl [HT0 HT1 HT2 HT3 HT4]
  · isplitl [HT0]; · iexact HT0
    isplitl [HT1]; · iexact HT1
    isplitl [HT2]; · iexact HT2
    isplitl [HT3]; · iexact HT3
    iexact HT4
  isplitl [HS0 HS1]
  · iapply (bufs_some c g0 g1 e s0 s1 (land2 c g0 s2 (k0_off2 (rd c tbM0 ![0] inb_S191_S1_0 t0)) (inbGu_of (show k0_off2 (rd c tbM0 ![0] inb_S191_S1_0 t0) = ![e.val, 0, 0] from by rw [← he1]; rfl))) (land3 c g1 s3 (k0_off3 (rd c tbM0 ![0] inb_S191_S1_0 t0)) (inbD_of (show k0_off3 (rd c tbM0 ![0] inb_S191_S1_0 t0) = ![e.val, 0, 0] from by rw [← he1]; rfl))) (read_land2 c g0 s2 _ _ e (show k0_off2 (rd c tbM0 ![0] inb_S191_S1_0 t0) = ![e.val, 0, 0] from by rw [← he1]; rfl)) (read_land3 c g1 s3 _ _ e (show k0_off3 (rd c tbM0 ![0] inb_S191_S1_0 t0) = ![e.val, 0, 0] from by rw [← he1]; rfl)))
    isplitl [HS0]; · iexact HS0
    iexact HS1
  isplitl [Hq0 Hg0 Hq1 Hg1]
  · iapply (xfer_some c g0 g1 e' _ _ _ _ (by rw [← he']) (by rw [← he']) (land2 c g0 s2 (k0_off2 (rd c tbM0 ![0] inb_S191_S1_0 t0)) (inbGu_of (show k0_off2 (rd c tbM0 ![0] inb_S191_S1_0 t0) = ![e.val, 0, 0] from by rw [← he1]; rfl))) (land3 c g1 s3 (k0_off3 (rd c tbM0 ![0] inb_S191_S1_0 t0)) (inbD_of (show k0_off3 (rd c tbM0 ![0] inb_S191_S1_0 t0) = ![e.val, 0, 0] from by rw [← he1]; rfl))))
    isplitl [Hq0]; · iexact Hq0
    isplitl [Hg0]; · iexact Hg0
    isplitl [Hq1]; · iexact Hq1
    iexact Hg1
  iexists _; iexact HW

end Cert.KernelIdeal.Moe

end
-- ==== Proof.RunE.lean ====
/- The first block of an expert other than the first, the next one sent for. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runE (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (e e' : Fin 32)
    (hc1 : k0_cond1 (rd c tbM1 (k0_off1 i) (k0_off1_inb i) t1) = 1#1)
    (hc2 : ¬ k0_cond2 i = 1#1)
    (hw2 : k0_chk2 (rd c tbM1 (k0_off1 i) (k0_off1_inb i) t1) (rd c tbM0 (k0_off4 i) (k0_off4_inb i) t0))
    (hc3 : k0_cond3 (rd c tbM4 (k0_off7 i) (k0_off7_inb i) t4) = 1#1)
    (hw3 : k0_chk3 (rd c tbM1 (k0_off1 i) (k0_off1_inb i) t1) (rd c tbM4 (k0_off7 i) (k0_off7_inb i) t4) (rd c tbM3 (k0_off8 i) (k0_off8_inb i) t3))
    (he' : (rd c tbM3 (k0_off8 i) (k0_off8_inb i) t3).toNat = e'.val)
    (hc4 : k0_cond4 i (rd1 c t2) = 1#1)
    (hc5 : ¬ k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ Bufs c g0 g1 none ∗ Xfer c g0 g1 (some e) ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare (k0_pay3 x6 (k0_pay1 (wguAt c g0 e)) x8 (k0_pay2 (wdAt c g1 e)) x10) ∗ Tabs c t0 t1 t2 t3 t4
            ∗ Bufs c g0 g1 (some e) ∗ Xfer c g0 g1 (some e') ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  rw [Bufs_none, Xfer_some c g0 g1 e]; unfold owns
  iintro ⟨⟨%f6, %hf6, H6⟩, ⟨%f8, %hf8, H8⟩, ⟨%f10, %hf10, H10⟩, ⟨%d11, %f11, -, H11⟩, ⟨HT0, HT1, HT2, HT3, HT4⟩, ⟨⟨%s0, HS0⟩, ⟨%s1, HS1⟩⟩, ⟨%l2, %l3, %hl2, %hl3, Hq0, Hg0, Hq1, Hg1⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    refine congr (congr (congr (congr (congrArg k0_pay3 ((View.readAt_full _ _ _).trans (harg6.read_unread x6))) (cov0 c _ _ hl2)) ((View.readAt_full _ _ _).trans (harg8.read_unread x8))) (cov1 c _ _ hl3)) ((View.readAt_full _ _ _).trans (harg10.read_unread x10))
  isplitl [HT0 HT1 HT2 HT3 HT4]
  · isplitl [HT0]; · iexact HT0
    isplitl [HT1]; · iexact HT1
    isplitl [HT2]; · iexact HT2
    isplitl [HT3]; · iexact HT3
    iexact HT4
  isplitl [HS0 HS1]
  · iapply (bufs_some c g0 g1 e s0 s1 l2 l3 hl2 hl3)
    isplitl [HS0]; · iexact HS0
    iexact HS1
  isplitl [Hq0 Hg0 Hq1 Hg1]
  · iapply (xfer_some c g0 g1 e' _ _ _ _ (by rw [← he']) (by rw [← he']) l2 l3)
    isplitl [Hq0]; · iexact Hq0
    isplitl [Hg0]; · iexact Hg0
    isplitl [Hq1]; · iexact Hq1
    iexact Hg1
  iexists _; iexact HW

end Cert.KernelIdeal.Moe

end
-- ==== Proof.RunF.lean ====
/- The first block of the last expert, not the first. -/
module

public import proofs.«01_k».proof.Proof.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxHeartbeats 4000000 in
theorem runF (c : Dev nD) (i : grid0.Coords)
    (arg6 : Memref sig .tc .vmem S512x512 .i32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S512x1024 .f32) (harg11 : arg11.IsWhole)
    (x6 : Vec F S512x512 .i32) (x8 : Vec F S1x1x2048 .f32) (x10 : Vec F S1x1x1024 .f32)
    (t0 : BufOf (F := F) c tbM0) (t1 : BufOf (F := F) c tbM1) (t2 : BufOf (F := F) c tbM2) (t3 : BufOf (F := F) c tbM3) (t4 : BufOf (F := F) c tbM4)
    (g0 : BufOf (F := F) c hbM0) (g1 : BufOf (F := F) c hbM1)
    (e : Fin 32)
    (hc1 : k0_cond1 (rd c tbM1 (k0_off1 i) (k0_off1_inb i) t1) = 1#1)
    (hc2 : ¬ k0_cond2 i = 1#1)
    (hw2 : k0_chk2 (rd c tbM1 (k0_off1 i) (k0_off1_inb i) t1) (rd c tbM0 (k0_off4 i) (k0_off4_inb i) t0))
    (hc3 : ¬ k0_cond3 (rd c tbM4 (k0_off7 i) (k0_off7_inb i) t4) = 1#1)
    (hc4 : k0_cond4 i (rd1 c t2) = 1#1)
    (hc5 : ¬ k0_cond5 i (rd1 c t2) = 1#1)
    (W : Waits sig Unit) (K : PUnit → sProp (MM F)) :
    iprop(owns (c : Thread nD τ) arg6 fullShare x6 ∗ owns (c : Thread nD τ) arg8 fullShare x8 ∗ owns (c : Thread nD τ) arg10 fullShare x10
        ∗ (∃ d, owns (c : Thread nD τ) arg11 fullShare d) ∗ Tabs c t0 t1 t2 t3 t4
        ∗ Bufs c g0 g1 none ∗ Xfer c g0 g1 (some e) ∗ owes (c : Thread nD τ) 0 W
        ∗ (iprop(owns (c : Thread nD τ) arg6 fullShare x6 ∗ owns (c : Thread nD τ) arg8 fullShare x8 ∗ owns (c : Thread nD τ) arg10 fullShare x10
            ∗ owns (c : Thread nD τ) arg11 fullShare (k0_pay3 x6 (k0_pay1 (wguAt c g0 e)) x8 (k0_pay2 (wdAt c g1 e)) x10) ∗ Tabs c t0 t1 t2 t3 t4
            ∗ Bufs c g0 g1 (some e) ∗ Xfer c g0 g1 none ∗ (∃ W', owes (c : Thread nD τ) 0 W')) -∗ K ⟨⟩))
      ⊢ wp frame (wpE (defs₀ (F := F)) Variants.none c none) Set.univ
          (cc0_moe i tbM0 (Memref.isWhole_whole _) tbM1 (Memref.isWhole_whole _) tbM2 (Memref.isWhole_whole _) tbM3 (Memref.isWhole_whole _) tbM4 (Memref.isWhole_whole _)
            arg6 harg6 hbM0 (Memref.isWhole_whole _) arg8 harg8 hbM1 (Memref.isWhole_whole _) arg10 harg10 arg11 harg11
            scM0 (Memref.isWhole_whole _) scM1 (Memref.isWhole_whole _) scM2 (Memref.isWhole_whole _) scM3 (Memref.isWhole_whole _) cc0_scratch4) K := by
  simp only [cc0_moe_eq_skeleton]; unfold cc0_moe_skel
  rw [Bufs_none, Xfer_some, Xfer_none]; unfold owns
  iintro ⟨⟨%f6, %hf6, H6⟩, ⟨%f8, %hf8, H8⟩, ⟨%f10, %hf10, H10⟩, ⟨%d11, %f11, -, H11⟩, ⟨HT0, HT1, HT2, HT3, HT4⟩, ⟨⟨%s0, HS0⟩, ⟨%s1, HS1⟩⟩, ⟨%l2, %l3, %hl2, %hl3, Hq0, Hg0, Hq1, Hg1⟩, HW, Hk⟩
  obtain rfl := harg6.eq_unread hf6
  obtain rfl := harg8.eq_unread hf8
  obtain rfl := harg10.eq_unread hf10
  sl_exec
  sl_step
  iapply Hk
  isplitl [H6]; · iexists _; isplitr; · ipureintro; exact harg6.read_unread _
                  iexact H6
  isplitl [H8]; · iexists _; isplitr; · ipureintro; exact harg8.read_unread _
                  iexact H8
  isplitl [H10]; · iexists _; isplitr; · ipureintro; exact harg10.read_unread _
                   iexact H10
  isplitl [H11]
  · iexists _; isplitr; swap; · iexact H11
    ipureintro
    refine (View.read_writes_full _ _ _ _ _).trans ?_
    refine congr (congr (congr (congr (congrArg k0_pay3 ((View.readAt_full _ _ _).trans (harg6.read_unread x6))) (cov0 c _ _ hl2)) ((View.readAt_full _ _ _).trans (harg8.read_unread x8))) (cov1 c _ _ hl3)) ((View.readAt_full _ _ _).trans (harg10.read_unread x10))
  isplitl [HT0 HT1 HT2 HT3 HT4]
  · isplitl [HT0]; · iexact HT0
    isplitl [HT1]; · iexact HT1
    isplitl [HT2]; · iexact HT2
    isplitl [HT3]; · iexact HT3
    iexact HT4
  isplitl [HS0 HS1]
  · iapply (bufs_some c g0 g1 e s0 s1 l2 l3 hl2 hl3)
    isplitl [HS0]; · iexact HS0
    iexact HS1
  isplitl [Hq0_dst Hq1_dst Hq0 Hq1 Hg0 Hg1]
  · isplitl [Hq0_dst Hq1_dst]
    · isplitl [Hq0_dst]; · iexists _; iexact Hq0_dst
      iexists _; iexact Hq1_dst
    isplitl [Hq0]; · iexact Hq0
    isplitl [Hq1]; · iexact Hq1
    isplitl [Hg0]; · iexact Hg0
    iexact Hg1
  iexists _; iexact HW

end Cert.KernelIdeal.Moe

end
-- ==== Proof.Frame.lean ====
/- The call's proof data: what each window holds at each point, what is carried between points; the body's obligation,
   by the six cases of its run; and the run of the whole program. -/
module

public import proofs.«01_k».proof.Proof.Words
public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The packed rows' block: the transfer's part of it (all of it) put into a block. -/
def xblk (hO : Ok m) (c : Dev nD) (t : Fin (cfgM m hO).N) : Vec F S512x512 .i32 :=
  ((cfgM m hO).win 0).fill ((cfgM m hO).grid.coords t) (fun _ => (0#32 : BitVec 32)) (iblk m hO c 0 t)

theorem clip_none : ∀ (i : grid0.Coords) a, clip0_0 i a = none := by decide +kernel

theorem before0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = xblk m hO c t) (t : Fin (cfgM m hO).N) (d) : dat.before 0 t d = xblk m hO c t := by
  have hb : ∀ t, dat.blockOf 0 t = iblk m hO c 0 t := fun t => by unfold Dat.blockOf iblk; rw [hA]; try rfl
  refine (dat.before_in_eq_fetched 0 rfl (fun _ => rfl) (fun t t' _ => funext fun a => (clip_none _ a).trans (clip_none _ a).symm)
    (fun t => by rw [hafter, hb]; exact ((cfgM m hO).win 0).cut_fill _ _ _) t d).trans ?_
  unfold Dat.fetched xblk
  rw [hb]
  exact Pipeline.fill_of_clip_none (cfg := cfgM m hO) 0 _ (fun a => clip_none _ a) _ _ _
theorem before1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- A step of the grid as a block's number. -/
abbrev fx (t : Fin grid0.N) : Fin 191 := ⟨t.val, t.isLt⟩

/-- What the call leaves in block `t` of its result: the block's expert's feed-forward of the block's rows, or zero past the
    last used block. -/
def outAt (hO : Ok m) (S : Sched m) (c : Dev nD) (t : Fin (cfgM m hO).N) : Vec F S512x1024 .f32 :=
  if t.val < S.nu then
    k0_pay3 (xblk m hO c t) (k0_pay1 (wguAt c (V m c main_v52) (S.be (fx t)))) (iblk m hO c 1 t) (k0_pay2 (wdAt c (V m c main_v54) (S.be (fx t)))) (iblk m hO c 2 t)
  else k0_pay4

/-- What the body finds and leaves beside its windows before point `n`. -/
def Carry (S : Sched m) (c : Dev nD) (n : ℕ) : sProp (MM F) :=
  iprop(Bufs c (V m c main_v52) (V m c main_v54) (S.ld n) ∗ Xfer c (V m c main_v52) (V m c main_v54) (S.pn n) ∗ (∃ r, prngReg c r)
    ∗ Tabs c (tbl m 0) (tbl m 1) (tbl m 2) (tbl m 3) (tbl m 4))

def dats (hO : Ok m) (S : Sched m) (_ : Fin 1) (c : Dev nD) : Dat τ (Elt F) Unit ℕ (Pipeline.UD sig nD τ) ℕ (cfgM m hO) c where
  A w := V m c (Pipeline.arrRef spec0 w)
  after w t := match w with
    | ⟨0, _⟩ => xblk m hO c t
    | ⟨1, _⟩ => iblk m hO c 1 t
    | ⟨2, _⟩ => iblk m hO c 2 t
    | ⟨3, _⟩ => outAt m hO S c t
  Φ n := Carry m S c n.val
  q _ := fullShare
  owed _ := 0

variable (hO : Ok m) (S : Sched m)

theorem A_eq (c : Dev nD) (w : Fin (cfgM m hO).W) : (dats m hO S 0 c).A w = V m c (Pipeline.arrRef spec0 w) := by
  dsimp only [dats]
theorem after0 (c : Dev nD) (t : Fin (cfgM m hO).N) : (dats m hO S 0 c).after 0 t = xblk m hO c t := by dsimp only [dats]; try rfl
theorem after1 (c : Dev nD) (t : Fin (cfgM m hO).N) : (dats m hO S 0 c).after 1 t = iblk m hO c 1 t := by dsimp only [dats]; try rfl
theorem after2 (c : Dev nD) (t : Fin (cfgM m hO).N) : (dats m hO S 0 c).after 2 t = iblk m hO c 2 t := by dsimp only [dats]; try rfl
theorem after3 (c : Dev nD) (t : Fin (cfgM m hO).N) : (dats m hO S 0 c).after 3 t = outAt m hO S c t := by dsimp only [dats]; try rfl
theorem before0 (c : Dev nD) (t : Fin (cfgM m hO).N) (d) : (dats m hO S 0 c).before 0 t d = xblk m hO c t :=
  before0_of m hO (dats m hO S 0 c) (A_eq m hO S c 0) (after0 m hO S c) t d
theorem before1 (c : Dev nD) (t : Fin (cfgM m hO).N) (d) : (dats m hO S 0 c).before 1 t d = iblk m hO c 1 t :=
  before1_of m hO (dats m hO S 0 c) (A_eq m hO S c 1) (after1 m hO S c) t d
theorem before2 (c : Dev nD) (t : Fin (cfgM m hO).N) (d) : (dats m hO S 0 c).before 2 t d = iblk m hO c 2 t :=
  before2_of m hO (dats m hO S 0 c) (A_eq m hO S c 2) (after2 m hO S c) t d

/-! ## The body obligation -/

abbrev ms0 (t : Fin (cfgM m hO).N) : Memref sig .tc .vmem S512x512 .i32 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x1x2048 .f32 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S1x1x1024 .f32 := spec0_2.stage ((cfgM m hO).slots t 2)
abbrev hs2 (t : Fin (cfgM m hO).N) : (ms2 m hO t).IsWhole := hstage0_2 (((cfgM m hO).slots t 2).cast nbuf0_2)
abbrev ms3 (t : Fin (cfgM m hO).N) : Memref sig .tc .vmem S512x1024 .f32 := spec0_3.stage ((cfgM m hO).slots t 3)
abbrev hs3 (t : Fin (cfgM m hO).N) : (ms3 m hO t).IsWhole := hstage0_3 (((cfgM m hO).slots t 3).cast nbuf0_3)

abbrev bodyAt (t : Fin (cfgM m hO).N) : Prog (TpuEff nD τ sig (Elt F) Λ₀ .tc) PUnit :=
  cc0_moe (grid0.coords t) tbM0 (Memref.isWhole_whole _) tbM1 (Memref.isWhole_whole _) tbM2 (Memref.isWhole_whole _) tbM3 (Memref.isWhole_whole _) tbM4 (Memref.isWhole_whole _)
    (ms0 m hO t) (hs0 m hO t) hbM0 (Memref.isWhole_whole _) (ms1 m hO t) (hs1 m hO t) hbM1 (Memref.isWhole_whole _) (ms2 m hO t) (hs2 m hO t) (ms3 m hO t) (hs3 m hO t)
    scM0 (Memref.isWhole_whole _) scM1 (Memref.isWhole_whole _) scM2 (Memref.isWhole_whole _) scM3 (Memref.isWhole_whole _) cc0_scratch4

def bodyPre (c : Dev nD) (t : Fin (cfgM m hO).N) : sProp (MM F) :=
  iprop((dats m hO S 0 c).Φ t.castSucc ∗ (dats m hO S 0 c).owesAt () t.castSucc
    ∗ (∃ d, owns (c : Thread nD τ) (ms0 m hO t) fullShare ((dats m hO S 0 c).before 0 t d))
    ∗ (∃ d, owns (c : Thread nD τ) (ms1 m hO t) fullShare ((dats m hO S 0 c).before 1 t d))
    ∗ (∃ d, owns (c : Thread nD τ) (ms2 m hO t) fullShare ((dats m hO S 0 c).before 2 t d))
    ∗ (∃ d, owns (c : Thread nD τ) (ms3 m hO t) fullShare ((dats m hO S 0 c).before 3 t d)))
def bodyPost (c : Dev nD) (t : Fin (cfgM m hO).N) : sProp (MM F) :=
  iprop((dats m hO S 0 c).Φ t.succ ∗ (dats m hO S 0 c).owesAt () t.succ
    ∗ owns (c : Thread nD τ) (ms0 m hO t) fullShare ((dats m hO S 0 c).after 0 t)
    ∗ owns (c : Thread nD τ) (ms1 m hO t) fullShare ((dats m hO S 0 c).after 1 t)
    ∗ owns (c : Thread nD τ) (ms2 m hO t) fullShare ((dats m hO S 0 c).after 2 t)
    ∗ owns (c : Thread nD τ) (ms3 m hO t) fullShare ((dats m hO S 0 c).after 3 t))

/-- The two halves of a point, the windows at their blocks. -/
theorem pre_eq (c : Dev nD) (t : Fin (cfgM m hO).N) : bodyPre m hO S c t
    ⊢ iprop(Carry m S c t.val ∗ (∃ W, owes (c : Thread nD τ) 0 W)
    ∗ owns (c : Thread nD τ) (ms0 m hO t) fullShare (xblk m hO c t) ∗ owns (c : Thread nD τ) (ms1 m hO t) fullShare (iblk m hO c 1 t)
    ∗ owns (c : Thread nD τ) (ms2 m hO t) fullShare (iblk m hO c 2 t) ∗ (∃ d, owns (c : Thread nD τ) (ms3 m hO t) fullShare d)) := by
  unfold bodyPre
  simp only [before0, before1, before2]
  unfold Dat.owesAt Pipeline.owesWithin
  rw [show (dats m hO S 0 c).owed t.castSucc = 0 from rfl, show (dats m hO S 0 c).Φ t.castSucc = Carry m S c t.val from rfl]
  iintro ⟨HΦ, ⟨%W, -, HW⟩, ⟨%d0, H0⟩, ⟨%d1, H1⟩, ⟨%d2, H2⟩, ⟨%d3, H3⟩⟩
  isplitl [HΦ]; · iexact HΦ
  isplitl [HW]; · iexists W; iexact HW
  isplitl [H0]; · iexact H0
  isplitl [H1]; · iexact H1
  isplitl [H2]; · iexact H2
  iexists _; iexact H3
theorem post_eq (c : Dev nD) (t : Fin (cfgM m hO).N) :
    iprop(Carry m S c (t.val + 1) ∗ (∃ W, owes (c : Thread nD τ) 0 W)
    ∗ owns (c : Thread nD τ) (ms0 m hO t) fullShare (xblk m hO c t) ∗ owns (c : Thread nD τ) (ms1 m hO t) fullShare (iblk m hO c 1 t)
    ∗ owns (c : Thread nD τ) (ms2 m hO t) fullShare (iblk m hO c 2 t) ∗ owns (c : Thread nD τ) (ms3 m hO t) fullShare (outAt m hO S c t))
    ⊢ bodyPost m hO S c t := by
  unfold bodyPost
  rw [after0, after1, after2, after3]
  unfold Dat.owesAt Pipeline.owesWithin
  rw [show (dats m hO S 0 c).owed t.succ = 0 from rfl, show (dats m hO S 0 c).Φ t.succ = Carry m S c (t.val + 1) from rfl]
  iintro ⟨HΦ, ⟨%W, HW⟩, H0, H1, H2, H3⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  iexact H3

end Cert.KernelIdeal.Moe

end
-- ==== Proof.Body.lean ====
/- The body's obligation at every point, by the six cases of its run, and the run of the whole program. -/
module

public import proofs.«01_k».proof.Proof.Frame

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)
variable (hO : Ok m) (S : Sched m)

theorem bufs_weak (c : Dev nD) (g0 : BufOf (F := F) c hbM0) (g1 : BufOf (F := F) c hbM1) (o : Option (Fin 32)) : Bufs c g0 g1 o ⊢ Bufs c g0 g1 none := by
  cases o with
  | none => exact .rfl
  | some e =>
    rw [Bufs_some, Bufs_none]
    iintro ⟨⟨%f0, -, H0⟩, ⟨%f1, -, H1⟩⟩
    isplitl [H0]
    · iexists f0; iexact H0
    iexists f1; iexact H1

theorem xfer_weak (c : Dev nD) (g0 : BufOf (F := F) c hbM0) (g1 : BufOf (F := F) c hbM1) {o o' : Option (Fin 32)} (h : o = o') : Xfer c g0 g1 o ⊢ Xfer c g0 g1 o' := by
  subst h; exact .rfl
theorem bufs_cast (c : Dev nD) (g0 : BufOf (F := F) c hbM0) (g1 : BufOf (F := F) c hbM1) {o o' : Option (Fin 32)} (h : o = o') : Bufs c g0 g1 o ⊢ Bufs c g0 g1 o' := by
  subst h; exact .rfl

section
variable (c : Dev nD) (t : Fin (cfgM m hO).N)

/-- A run from the buffers and transfers in one state to another, at a point whose carried states are those. -/
theorem assemble (o1 o2 o1' o2' : Option (Fin 32))
    (h1 : Bufs c (V m c main_v52) (V m c main_v54) (S.ld t.val) ⊢ Bufs c (V m c main_v52) (V m c main_v54) o1)
    (h2 : S.pn t.val = o2) (h1' : o1' = S.ld (t.val + 1)) (h2' : o2' = S.pn (t.val + 1))
    (out : Vec F S512x1024 .f32) (hout : out = outAt m hO S c t)
    (h : ∀ (W : Waits sig Unit) (K : PUnit → sProp (MM F)),
      iprop(owns (c : Thread nD τ) (ms0 m hO t) fullShare (xblk m hO c t) ∗ owns (c : Thread nD τ) (ms1 m hO t) fullShare (iblk m hO c 1 t) ∗ owns (c : Thread nD τ) (ms2 m hO t) fullShare (iblk m hO c 2 t)
        ∗ (∃ d, owns (c : Thread nD τ) (ms3 m hO t) fullShare d) ∗ Tabs c (tbl m 0) (tbl m 1) (tbl m 2) (tbl m 3) (tbl m 4)
        ∗ Bufs c (V m c main_v52) (V m c main_v54) o1 ∗ Xfer c (V m c main_v52) (V m c main_v54) o2 ∗ owes (c : Thread nD τ) 0 W
        ∗ (iprop(owns (c : Thread nD τ) (ms0 m hO t) fullShare (xblk m hO c t) ∗ owns (c : Thread nD τ) (ms1 m hO t) fullShare (iblk m hO c 1 t) ∗ owns (c : Thread nD τ) (ms2 m hO t) fullShare (iblk m hO c 2 t)
            ∗ owns (c : Thread nD τ) (ms3 m hO t) fullShare out ∗ Tabs c (tbl m 0) (tbl m 1) (tbl m 2) (tbl m 3) (tbl m 4)
            ∗ Bufs c (V m c main_v52) (V m c main_v54) o1' ∗ Xfer c (V m c main_v52) (V m c main_v54) o2' ∗ (∃ W', owes (c : Thread nD τ) 0 W')) -∗ K ⟨⟩))
      ⊢ wp frame (wpE (defs₀ (F := F)) Variants.none c none) Set.univ (bodyAt m hO t) K) :
    bodyPre m hO S c t ⊢ wp frame (wpE (defs₀ (F := F)) Variants.none c none) Set.univ (bodyAt m hO t) (fun _ => bodyPost m hO S c t) := by
  subst h2 h1' h2' hout
  refine BIBase.Entails.trans (pre_eq m hO S c t) ?_
  unfold Carry
  iintro ⟨⟨HB, HX, Hr, HT⟩, ⟨%W, HW⟩, H0, H1, H2, H3⟩
  iapply (h W (fun _ => bodyPost m hO S c t))
  isplitl [H0]; · iexact H0
  isplitl [H1]; · iexact H1
  isplitl [H2]; · iexact H2
  isplitl [H3]; · iexact H3
  isplitl [HT]; · iexact HT
  isplitl [HB]; · iapply h1; iexact HB
  isplitl [HX]; · iexact HX
  isplitl [HW]; · iexact HW
  iintro ⟨H0, H1, H2, H3, HT, HB, HX, HW⟩
  iapply (post_eq m hO S c t)
  unfold Carry
  isplitl [HB HX Hr HT]
  · isplitl [HB]; · iexact HB
    isplitl [HX]; · iexact HX
    isplitl [Hr]; · iexact Hr
    iexact HT
  isplitl [HW]; · iexact HW
  isplitl [H0]; · iexact H0
  isplitl [H1]; · iexact H1
  isplitl [H2]; · iexact H2
  iexact H3

theorem off_coords (t : Fin grid0.N) : (![((grid0.coords t) 0).val] : Fin 1 → ℕ) = ![(fx t).val] := by rw [coords_val]

/-! The words the body reads at point `t`. -/
theorem w_first : rd c tbM1 (k0_off1 (grid0.coords t)) (k0_off1_inb _) (tbl m 1) = if S.fi (fx t) then 1#32 else 0#32 :=
  (rdF_eq c _ _ _ (fx t) ((k0_off1_eq _).trans (off_coords t))).trans (S.tf _)
theorem w_be : rd c tbM0 (k0_off4 (grid0.coords t)) (k0_off4_inb _) (tbl m 0) = BitVec.ofNat 32 (S.be (fx t)).val :=
  (rd0_eq c _ _ _ (fx t) ((k0_off4_eq _).trans (off_coords t))).trans (S.tb _)
theorem w_be0 : rd c tbM0 ![0] inb_S191_S1_0 (tbl m 0) = BitVec.ofNat 32 (S.be 0).val :=
  (rd0_eq c _ _ _ 0 rfl).trans (S.tb _)
theorem w_hn : rd c tbM4 (k0_off7 (grid0.coords t)) (k0_off7_inb _) (tbl m 4) = if S.hn (fx t) then 1#32 else 0#32 :=
  (rdH_eq c _ _ _ (fx t) ((k0_off7_eq _).trans (off_coords t))).trans (S.th _)
theorem w_nx : rd c tbM3 (k0_off8 (grid0.coords t)) (k0_off8_inb _) (tbl m 3) = BitVec.ofNat 32 (S.nx (fx t)).val :=
  (rdN_eq c _ _ _ (fx t) ((k0_off8_eq _).trans (off_coords t))).trans (S.tn _)
theorem w_nu : rd1 c (tbl m 2) = BitVec.ofNat 32 S.nu := (rd1_eq c _).trans S.tu

theorem toNat_e (e : Fin 32) : (BitVec.ofNat 32 e.val).toNat = e.val := by
  rw [BitVec.toNat_ofNat]; exact Nat.mod_eq_of_lt (by have := e.isLt; omega)
theorem off_e {v : BitVec 32} (e : Fin 32) (h : v = BitVec.ofNat 32 e.val) : (![v.toNat, 0, 0] : Fin 3 → ℕ) = ![e.val, 0, 0] := by
  rw [h, toNat_e]
theorem chk1_of {i : grid0.Coords} {v w : BitVec 32} (e : Fin 32) (h : w = BitVec.ofNat 32 e.val) : k0_chk1 i v w :=
  ⟨fun _ _ => inbGu_of (off_e e h), fun _ _ => inbD_of (off_e e h)⟩
theorem chk2_of {v w : BitVec 32} (e : Fin 32) (h : w = BitVec.ofNat 32 e.val) : k0_chk2 v w :=
  ⟨fun _ => inbGu_of (off_e e h), fun _ => inbD_of (off_e e h)⟩
theorem chk3_of {v u w : BitVec 32} (e : Fin 32) (h : w = BitVec.ofNat 32 e.val) : k0_chk3 v u w :=
  ⟨fun _ _ => inbGu_of (off_e e h), fun _ _ => inbD_of (off_e e h)⟩

theorem fx_zero {t : Fin grid0.N} (h : t.val = 0) : fx t = (0 : Fin 191) := Fin.ext h

theorem sound_body : bodyPre m hO S c t ⊢ wp frame (wpE (defs₀ (F := F)) Variants.none c none) Set.univ (bodyAt m hO t) (fun _ => bodyPost m hO S c t) := by
  have c4 : k0_cond4 (grid0.coords t) (rd1 c (tbl m 2)) = 1#1 ↔ t.val < S.nu := by
    rw [w_nu m S c, cond4_iff _ _ S.hu]; rw [coords_val]
  have c5 := cond45 (grid0.coords t) (rd1 c (tbl m 2))
  have c2 : k0_cond2 (grid0.coords t) = 1#1 ↔ t.val = 0 := by rw [cond2_iff]; rw [coords_val]
  cases hf : S.fi (fx t) with
  | true =>
    have hu := S.fu (fx t) hf
    have hc4 := c4.mpr hu
    have hc5 : ¬ _ := fun h => c5.mp h hc4
    have hc1 : k0_cond1 (rd c tbM1 (k0_off1 (grid0.coords t)) (k0_off1_inb _) (tbl m 1)) = 1#1 := by
      rw [w_first m hO S c t, hf]; exact cond1_one
    have hw2 := chk2_of (v := rd c tbM1 (k0_off1 (grid0.coords t)) (k0_off1_inb _) (tbl m 1)) (S.be (fx t)) (w_be m hO S c t)
    have hout : k0_pay3 (xblk m hO c t) (k0_pay1 (wguAt c (V m c main_v52) (S.be (fx t)))) (iblk m hO c 1 t) (k0_pay2 (wdAt c (V m c main_v54) (S.be (fx t)))) (iblk m hO c 2 t) = outAt m hO S c t := by
      unfold outAt; rw [if_pos hu]
    have hsl := S.sl (fx t) hf
    have hsp := S.sp (fx t) hf
    by_cases h0 : t.val = 0
    · have hc2 := c2.mpr h0
      have hb0 : S.be 0 = S.be (fx t) := by rw [fx_zero h0]
      have hw1 := chk1_of (i := grid0.coords t) (v := rd c tbM1 (k0_off1 (grid0.coords t)) (k0_off1_inb _) (tbl m 1)) (S.be (fx t)) ((w_be0 m S c).trans (by rw [hb0]))
      have he1 : (rd c tbM0 ![0] inb_S191_S1_0 (tbl m 0)).toNat = (S.be (fx t)).val := by rw [w_be0 m S c, toNat_e, hb0]
      have hpn : S.pn t.val = none := by rw [h0]; exact S.pn0
      cases hh : S.hn (fx t) with
      | true =>
        rw [hh] at hsp
        have hc3 : k0_cond3 (rd c tbM4 (k0_off7 (grid0.coords t)) (k0_off7_inb _) (tbl m 4)) = 1#1 := by
          rw [w_hn m hO S c t, hh]; exact cond3_one
        refine assemble m hO S c t none none (some (S.be (fx t))) (some (S.nx (fx t))) (bufs_weak c _ _ _) hpn hsl.symm hsp.symm _ hout fun W K => ?_
        exact runD c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          (S.be (fx t)) (S.nx (fx t)) hc1 hc2 hw1 he1 hw2 hc3 (chk3_of (S.nx (fx t)) (w_nx m hO S c t)) (by rw [w_nx m hO S c t, toNat_e]) hc4 hc5 W K
      | false =>
        rw [hh] at hsp
        have hc3 : ¬ k0_cond3 (rd c tbM4 (k0_off7 (grid0.coords t)) (k0_off7_inb _) (tbl m 4)) = 1#1 := by
          rw [w_hn m hO S c t, hh]; exact cond3_zero
        refine assemble m hO S c t none none (some (S.be (fx t))) none (bufs_weak c _ _ _) hpn hsl.symm hsp.symm _ hout fun W K => ?_
        exact runC c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          (S.be (fx t)) hc1 hc2 hw1 he1 hw2 hc3 hc4 hc5 W K
    · have hc2 : ¬ _ := fun h => h0 (c2.mp h)
      have hpn := S.fp (fx t) hf h0
      cases hh : S.hn (fx t) with
      | true =>
        rw [hh] at hsp
        have hc3 : k0_cond3 (rd c tbM4 (k0_off7 (grid0.coords t)) (k0_off7_inb _) (tbl m 4)) = 1#1 := by
          rw [w_hn m hO S c t, hh]; exact cond3_one
        refine assemble m hO S c t none (some (S.be (fx t))) (some (S.be (fx t))) (some (S.nx (fx t))) (bufs_weak c _ _ _) hpn hsl.symm hsp.symm _ hout fun W K => ?_
        exact runE c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          (S.be (fx t)) (S.nx (fx t)) hc1 hc2 hw2 hc3 (chk3_of (S.nx (fx t)) (w_nx m hO S c t)) (by rw [w_nx m hO S c t, toNat_e]) hc4 hc5 W K
      | false =>
        rw [hh] at hsp
        have hc3 : ¬ k0_cond3 (rd c tbM4 (k0_off7 (grid0.coords t)) (k0_off7_inb _) (tbl m 4)) = 1#1 := by
          rw [w_hn m hO S c t, hh]; exact cond3_zero
        refine assemble m hO S c t none (some (S.be (fx t))) (some (S.be (fx t))) none (bufs_weak c _ _ _) hpn hsl.symm hsp.symm _ hout fun W K => ?_
        exact runF c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          (S.be (fx t)) hc1 hc2 hw2 hc3 hc4 hc5 W K
  | false =>
    have hc1 : ¬ k0_cond1 (rd c tbM1 (k0_off1 (grid0.coords t)) (k0_off1_inb _) (tbl m 1)) = 1#1 := by
      rw [w_first m hO S c t, hf]; exact cond1_zero
    have hkp : S.pn (t.val + 1) = S.pn t.val := S.kp (fx t) hf
    have hkl : S.ld (t.val + 1) = S.ld t.val := S.kl (fx t) hf
    by_cases hu : t.val < S.nu
    · have hc4 := c4.mpr hu
      have hc5 : ¬ _ := fun h => c5.mp h hc4
      have hus : S.ld (t.val + 1) = some (S.be (fx t)) := S.us (fx t) hu
      have hout : k0_pay3 (xblk m hO c t) (k0_pay1 (wguAt c (V m c main_v52) (S.be (fx t)))) (iblk m hO c 1 t) (k0_pay2 (wdAt c (V m c main_v54) (S.be (fx t)))) (iblk m hO c 2 t) = outAt m hO S c t := by
        unfold outAt; rw [if_pos hu]
      refine assemble m hO S c t (some (S.be (fx t))) (S.pn t.val) (some (S.be (fx t))) (S.pn t.val) (bufs_cast c _ _ (hkl.symm.trans hus)) rfl hus.symm hkp.symm _ hout fun W K => ?_
      iintro ⟨H0, H1, H2, H3, HT, HB, HX, HW, HK⟩
      iapply (runA c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          (S.be (fx t)) hc1 hc4 hc5 W K)
      isplitl [H0]; · iexact H0
      isplitl [H1]; · iexact H1
      isplitl [H2]; · iexact H2
      isplitl [H3]; · iexact H3
      isplitl [HT]; · iexact HT
      isplitl [HB]; · iexact HB
      isplitl [HW]; · iexact HW
      iintro ⟨H0, H1, H2, H3, HT, HB, HW⟩
      iapply HK
      isplitl [H0]; · iexact H0
      isplitl [H1]; · iexact H1
      isplitl [H2]; · iexact H2
      isplitl [H3]; · iexact H3
      isplitl [HT]; · iexact HT
      isplitl [HB]; · iexact HB
      isplitl [HX]; · iexact HX
      iexact HW
    · have hc4 : ¬ _ := fun h => hu (c4.mp h)
      have hc5 := c5.mpr hc4
      have hout : k0_pay4 = outAt m hO S c t := by unfold outAt; rw [if_neg hu]
      refine assemble m hO S c t (S.ld t.val) (S.pn t.val) (S.ld t.val) (S.pn t.val) .rfl rfl hkl.symm hkp.symm _ hout fun W K => ?_
      iintro ⟨H0, H1, H2, H3, HT, HB, HX, HW, HK⟩
      iapply (runB c (grid0.coords t) (ms0 m hO t) (hs0 m hO t) (ms1 m hO t) (hs1 m hO t) (ms2 m hO t) (hs2 m hO t) (ms3 m hO t) (hs3 m hO t)
          (xblk m hO c t) (iblk m hO c 1 t) (iblk m hO c 2 t) (tbl m 0) (tbl m 1) (tbl m 2) (tbl m 3) (tbl m 4) (V m c main_v52) (V m c main_v54)
          hc1 hc4 hc5 W K)
      isplitl [H0]; · iexact H0
      isplitl [H1]; · iexact H1
      isplitl [H2]; · iexact H2
      isplitl [H3]; · iexact H3
      isplitl [HT]; · iexact HT
      isplitl [HW]; · iexact HW
      iintro ⟨H0, H1, H2, H3, HT, HW⟩
      iapply HK
      isplitl [H0]; · iexact H0
      isplitl [H1]; · iexact H1
      isplitl [H2]; · iexact H2
      isplitl [H3]; · iexact H3
      isplitl [HT]; · iexact HT
      isplitl [HB]; · iexact HB
      isplitl [HX]; · iexact HX
      iexact HW
end

end Cert.KernelIdeal.Moe

end
-- ==== Proof.Launch.lean ====
/- The body's obligation in the launch's form, and the run of the whole program. -/
module

public import proofs.«01_k».proof.Proof.Body

@[expose] public section

set_option maxRecDepth 16384
set_option maxHeartbeats 400000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)
variable (hO : Ok m) (S : Sched m)

/-! ## The body obligation, and the run -/

theorem bigSep_W0 (f : Fin 4 → sProp (MM F)) : bigSep Finset.univ f = iprop(f 0 ∗ f 1 ∗ f 2 ∗ f 3) := by
  rw [bigSep_univ_eq_bigSepL [(0 : Fin 4), 1, 2, 3] (by decide) (by decide)]; rfl

theorem defs₀_row (t : Fin (cfgM m hO).N) : defs₀ (F := F) .tc (cfgM m hO).body ((cfgM m hO).bodyArgs t ((cfgM m hO).slots t)) = bodyAt m hO t := by
  unfold defs₀; rw [Defs.onTc_tc]

theorem idle_none (pf : pre0.Contents (Elt F)) (i : grid0.Coords) : idle0 pf 3 i = false := by
  unfold idle0
  dsimp only
  generalize pf.atD 2 ![0] = v
  have c5 := cond45 i v
  by_cases h4 : k0_cond4 i v = 1#1
  · simp [h4]
  · simp [c5.mpr h4]

theorem body_obligation (c : Dev nD) : BodyObligation (dats m hO S 0 c) (defs₀ (F := F)) Variants.none () Set.univ := fun t => by
  rw [bigSep_W0, bigSep_W0, defs₀_row]
  refine triple_restated (sound_body m hO S c t) rfl .rfl fun _ => ?_
  unfold bodyPost
  refine sep_mono .rfl (sep_mono .rfl (sep_mono .rfl (sep_mono .rfl (sep_mono .rfl ?_))))
  dsimp only
  split
  · rename_i h
    rw [idle_none] at h
    cases h
  · exact .rfl

theorem hostOps_sub : (hostStretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩
theorem hostOps_fresh : (hostStretches (F := F)).Forall fun ops => ops.Forall fun op => op.fresh = ∅ := by
  unfold hostStretches hostOps0 hostOps0_1 hostOps0_2 hostOps0_3 hostOps0_4 hostOps0_5 hostOps0_6 hostOps0_7 hostOps0_8
  repeat' first | exact rfl | constructor

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_prefixes pcfgs 0 defs₀ 𝒱₀ m main hostStretches hostOps_sub hostOps_fresh main_chain

theorem phi_in (c : Dev nD) : iprop(Pipeline.ΦD osem spec0 H0 (V m) c ∗ Pipeline.ΦT pre0 (tbl m) c) ⊢ Carry m S c 0 := by
  unfold Carry
  rw [S.pn0, S.ld0, Bufs_none, Xfer_none, PhiD_eq, PhiT_eq]
  iintro ⟨⟨⟨H0, H1, H2, H3⟩, Hr, ⟨Hs8, Hs9⟩, Hb0, Hb1⟩, HT⟩
  isplitl [H0 H1]
  · isplitl [H0]; · iexact H0
    iexact H1
  isplitl [H2 H3 Hs8 Hs9 Hb0 Hb1]
  · isplitl [H2 H3]
    · isplitl [H2]; · iexact H2
      iexact H3
    isplitl [Hs8]; · iexact Hs8
    isplitl [Hs9]; · iexact Hs9
    isplitl [Hb0]; · iexact Hb0
    iexact Hb1
  isplitl [Hr]; · iexact Hr
  iexact HT

theorem scr_out (c : Dev nD) (g0 : BufOf (F := F) c hbM0) (g1 : BufOf (F := F) c hbM1) (o : Option (Fin 32)) :
    iprop(Bufs c g0 g1 o ∗ (∃ f, fullPt c scM2 f) ∗ (∃ f, fullPt c scM3 f))
      ⊢ iprop((∃ f, fullPt c scM0 f) ∗ (∃ f, fullPt c scM1 f) ∗ (∃ f, fullPt (F := F) c scM2 f) ∗ (∃ f, fullPt (F := F) c scM3 f)) := by
  cases o with
  | none =>
    rw [Bufs_none]
    iintro ⟨⟨H0, H1⟩, H2, H3⟩
    isplitl [H0]; · iexact H0
    isplitl [H1]; · iexact H1
    isplitl [H2]; · iexact H2
    iexact H3
  | some e =>
    rw [Bufs_some]
    iintro ⟨⟨⟨%f0, -, H0⟩, ⟨%f1, -, H1⟩⟩, H2, H3⟩
    isplitl [H0]
    · iexists f0; iexact H0
    isplitl [H1]
    · iexists f1; iexact H1
    isplitl [H2]; · iexact H2
    iexact H3

theorem phi_out (c : Dev nD) : Carry m S c 191 ⊢ Pipeline.ΦD osem spec0 H0 (V m) c := by
  unfold Carry
  rw [S.pe, Xfer_none, PhiD_eq]
  iintro ⟨HB, ⟨⟨H2, H3⟩, Hs8, Hs9, Hb0, Hb1⟩, Hr, -⟩
  isplitl [HB H2 H3]
  · iapply (scr_out c (V m c main_v52) (V m c main_v54) (S.ld 191))
    isplitl [HB]; · iexact HB
    isplitl [H2]; · iexact H2
    iexact H3
  isplitl [Hr]; · iexact Hr
  isplitl [Hs8 Hs9]
  · isplitl [Hs8]; · iexact Hs8
    iexact Hs9
  isplitl [Hb0]; · iexact Hb0
  iexact Hb1

set_option backward.isDefEq.respectTransparency.types false in
/-- The whole program runs: the pipelined call's arrays end at the proof data's contents, every other buffer as the host operations
    before the call left it, and every semaphore at zero. -/
theorem run_main : θ_run defs (onTc (τ := τ) (main (F := F))) (s₀ m ρ)
    (fun r => Pipeline.FramePost (Pipeline.pin pcfgs (fun _ => adm m hO)) (dats m hO S) 0 (V m) r ∧ r.2.sem = fun _ => 0) :=
  Pipeline.θ_run_frameP_dma (Q' := _) pcfgs (fun _ => adm m hO) (dats m hO S) (0 : Fin 1) launch0 osem defs₀ Variants.none ownSemFacts H0 H0_sub m ρ main
    (hbody := fun c => (body_obligation m hO S c).loose) (hshare := fun c => (dats m hO S 0 c).share_full fun _ => rfl)
    (howed := fun _ _ => rfl) (V := V m) (hmain := hmain m Variants.none) (hA := A_eq m hO S) (hpf := V_pre m)
    (hin := phi_in m S) (hout := phi_out m S)

end Cert.KernelIdeal.Moe

end
-- ==== Proof.Frames.lean ====
/- The call's run from the precondition: what its result holds, its arguments unchanged, its semaphores at zero. -/
module

public import proofs.«01_k».proof.Proof.Admit
public import proofs.«01_k».proof.Proof.Launch

@[expose] public section

set_option maxRecDepth 16384
set_option maxHeartbeats 400000

noncomputable section

namespace Cert.KernelIdeal.Moe

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

theorem V_arg0 (c : Dev nD) : V m c main_arg0 = m (c.tc.loc main_arg0) := by
  unfold V
  simp only [hostStretches, List.flatten_cons, List.flatten_nil]
  after_reads_simp
theorem V_arg1 (c : Dev nD) : V m c main_arg1 = m (c.tc.loc main_arg1) := by
  unfold V
  simp only [hostStretches, List.flatten_cons, List.flatten_nil]
  after_reads_simp
theorem V_arg2 (c : Dev nD) : V m c main_arg2 = m (c.tc.loc main_arg2) := by
  unfold V
  simp only [hostStretches, List.flatten_cons, List.flatten_nil]
  after_reads_simp
theorem V_arg3 (c : Dev nD) : V m c main_arg3 = m (c.tc.loc main_arg3) := by
  unfold V
  simp only [hostStretches, List.flatten_cons, List.flatten_nil]
  after_reads_simp
theorem V_arg4 (c : Dev nD) : V m c main_arg4 = m (c.tc.loc main_arg4) := by
  unfold V
  simp only [hostStretches, List.flatten_cons, List.flatten_nil]
  after_reads_simp
theorem V_arg5 (c : Dev nD) : V m c main_arg5 = m (c.tc.loc main_arg5) := by
  unfold V
  simp only [hostStretches, List.flatten_cons, List.flatten_nil]
  after_reads_simp

theorem run_all (hO : Ok m) (S : Sched m) :
    θ_run defs (onTc (τ := τ) (main (F := F))) (s₀ m ρ) (fun r => (∀ c : Dev nD,
      r.2.mem (c.tc.loc main_v58) = (dats m hO S 0 c).arrAt 3 (cfgM m hO).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) ∧ r.2.sem = fun _ => 0) := by
  refine (θ_run defs _ _).mono (fun r h => ?_) (run_main m ρ hO S)
  refine ⟨fun c => ?_, h.2⟩
  obtain ⟨hw, hr⟩ := h.1 c
  refine ⟨hw 3, ?_, ?_, ?_, ?_, ?_, ?_⟩
  · exact (hr main_arg0 (Pipeline.mem_restRefs_of (win := spec0) main_arg0 (by decide) (by decide))).trans (V_arg0 m c)
  · refine (hw 0).trans (((dats m hO S 0 c).arrAt_in 0 rfl _).trans ?_)
    exact (A_eq m hO S c 0).trans (V_arg1 m c)
  · exact (hr main_arg2 (Pipeline.mem_restRefs_of (win := spec0) main_arg2 (by decide) (by decide))).trans (V_arg2 m c)
  · exact (hr main_arg3 (Pipeline.mem_restRefs_of (win := spec0) main_arg3 (by decide) (by decide))).trans (V_arg3 m c)
  · exact (hr main_arg4 (Pipeline.mem_restRefs_of (win := spec0) main_arg4 (by decide) (by decide))).trans (V_arg4 m c)
  · exact (hr main_arg5 (Pipeline.mem_restRefs_of (win := spec0) main_arg5 (by decide) (by decide))).trans (V_arg5 m c)

end Cert.KernelIdeal.Moe

end
-- ==== Proof.KerIdx.lean ====
/- Where the windows' blocks lie in their arrays, and the arrays' own elements. -/
module

public import proofs.«01_k».proof.Proof.Frames
public import proofs.«01_k».proof.Proof.Admit
public import Idealize.ShloMosaic.Lib.Pipeline.ValueKit.Geometry

@[expose] public section

set_option maxRecDepth 16384
set_option maxHeartbeats 1000000

noncomputable section

namespace Cert.KernelIdeal.Moe

open Idealize.ShloMosaic Idealize.ShloMosaic.TcCoe Idealize.ShloMosaic.StableHlo
open Idealize.ShloMosaic.ValueIdx (ix2 ix3 ix4)
open Idealize.ShloMosaic.Pipeline (Dat Cfg Window)
open Cert.KernelIdeal Cert.KernelIdeal.Gen
open Facts

variable {F : FTy → Type} [FloatOps F]

/-! ## The index maps -/

theorem tr0_eq : ∀ t : Fin grid0.N, cc0_transform_0 (grid0.coords t) = ![t.val, 0] := by decide +kernel
theorem tr5_eq : ∀ t : Fin grid0.N, cc0_transform_5 (grid0.coords t) = ![t.val, 0] := by decide +kernel

theorem word_key (pf : pre0.Contents (Elt F)) (t : Fin grid0.N) (n : ℕ) (hn : n < 32) (hw : pf 0 (ix191 (fx t)) = BitVec.ofNat 32 n) :
    (pf.at 0 (Rect.unit (s := S191) ![(Scalar.indexCast (BitVec.ofNat 32 (grid0.coords t 0).val) : Index).toNat] S1.size (k0_off1_inb (grid0.coords t))) numel1_S1).toNat = n := by
  have h0 : (grid0.coords t 0).val < 191 := (grid0.coords t 0).isLt
  have e : pf.at 0 (Rect.unit (s := S191) ![(Scalar.indexCast (BitVec.ofNat 32 (grid0.coords t 0).val) : Index).toNat] S1.size (k0_off1_inb (grid0.coords t))) numel1_S1 = BitVec.ofNat 32 n := by
    rw [← hw]
    refine congrArg (pf 0) (funext fun a => Fin.ext ?_)
    match a with
    | ⟨0, _⟩ =>
      show (BitVec.ofNat 32 (grid0.coords t 0).val).toNat + 1 * 0 = t.val
      rw [BitVec.toNat_ofNat, Nat.mod_eq_of_lt (by omega), coords_val]; omega
  rw [e, BitVec.toNat_ofNat]; omega

theorem tr2_eq (pf : pre0.Contents (Elt F)) (t : Fin grid0.N) (n : ℕ) (hn : n < 32) (hw : pf 0 (ix191 (fx t)) = BitVec.ofNat 32 n) :
    cc0_transform_2 k0_off1_inb numel1_S1 pf (grid0.coords t) = ![n, 0, 0] := by
  funext a
  match a with
  | ⟨0, _⟩ => exact word_key pf t n hn hw
  | ⟨1, _⟩ => rfl
  | ⟨2, _⟩ => rfl

theorem tr4_eq (pf : pre0.Contents (Elt F)) (t : Fin grid0.N) (n : ℕ) (hn : n < 32) (hw : pf 0 (ix191 (fx t)) = BitVec.ofNat 32 n) :
    cc0_transform_4 k0_off1_inb numel1_S1 pf (grid0.coords t) = ![n, 0, 0] := by
  funext a
  match a with
  | ⟨0, _⟩ => exact word_key pf t n hn hw
  | ⟨1, _⟩ => rfl
  | ⟨2, _⟩ => rfl

/-! ## An expert's weights and biases -/

theorem wguAt_ap (c : Dev nD) (g : BufOf (F := F) c hbM0) (e : Fin 32) (k : Fin 1024) (j : Fin 2048) :
    wguAt c g e (ix2 k j) = (g : FVec F S32x1024x2048 .f32) (ix3 e k j) := by
  unfold wguAt
  refine (congrFun (Memref.read_squeeze_slice hbM0 _ _ _ (show S1x1024x2048.ShapeCasts S1024x2048 by decide) g) _).trans ?_
  rw [shapeCast_apply _ _ (ix2 k j) (ix3 (0 : Fin 1) k j) (by
    rw [Shape.rowMajor_val_three, Shape.rowMajor_val_two]
    show (0 * 1024 + k.val) * 2048 + j.val = k.val * 2048 + j.val
    omega)]
  refine congrArg g (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

theorem wdAt_ap (c : Dev nD) (g : BufOf (F := F) c hbM1) (e : Fin 32) (k j : Fin 1024) :
    wdAt c g e (ix2 k j) = (g : FVec F S32x1024x1024 .f32) (ix3 e k j) := by
  unfold wdAt
  refine (congrFun (Memref.read_squeeze_slice hbM1 _ _ _ (show S1x1024x1024.ShapeCasts S1024x1024 by decide) g) _).trans ?_
  rw [shapeCast_apply _ _ (ix2 k j) (ix3 (0 : Fin 1) k j) (by
    rw [Shape.rowMajor_val_three, Shape.rowMajor_val_two]
    show (0 * 1024 + k.val) * 1024 + j.val = k.val * 1024 + j.val
    omega)]
  refine congrArg g (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

variable (m : (ℓ : Loc nD τ sig) → Buf (Elt F) ℓ)

theorem w1_ap (c : Dev nD) (e : Fin 32) (k : Fin 1024) (j : Fin 2048) :
    (V m c main_v52 : FVec F S32x1024x2048 .f32) (ix3 e k j) = (m (c, main_arg2) : FVec F S1x32x1024x2048 .f32) (ix4 0 e k j) := by
  refine (congrFun (V_w1 m c) _).trans ?_
  exact shapeCast_apply (s := S1x32x1024x2048) _ _ _ _ (by
    rw [Shape.rowMajor_val_three, Shape.rowMajor_val_four]
    show ((0 * 32 + e.val) * 1024 + k.val) * 2048 + j.val = (e.val * 1024 + k.val) * 2048 + j.val
    omega)

theorem w2_ap (c : Dev nD) (e : Fin 32) (k j : Fin 1024) :
    (V m c main_v54 : FVec F S32x1024x1024 .f32) (ix3 e k j) = (m (c, main_arg4) : FVec F S1x32x1024x1024 .f32) (ix4 0 e k j) := by
  refine (congrFun (V_w2 m c) _).trans ?_
  exact shapeCast_apply (s := S1x32x1024x1024) _ _ _ _ (by
    rw [Shape.rowMajor_val_three, Shape.rowMajor_val_four]
    show ((0 * 32 + e.val) * 1024 + k.val) * 1024 + j.val = (e.val * 1024 + k.val) * 1024 + j.val
    omega)

theorem b1_ap (c : Dev nD) (e : Fin 32) (j : Fin 2048) :
    (V m c main_v56 : FVec F S32x1x2048 .f32) (ix3 e 0 j) = (m (c, main_arg3) : FVec F S1x32x2048 .f32) (ix3 0 e j) := by
  refine (congrFun (V_b1 m c) _).trans ?_
  refine (shapeCast_apply _ _ _ (ix2 e j) (by
    rw [Shape.rowMajor_val_three, Shape.rowMajor_val_two]
    show e.val * 2048 + j.val = (e.val * 1 + 0) * 2048 + j.val
    omega)).trans ?_
  exact shapeCast_apply (s := S1x32x2048) _ _ _ _ (by
    rw [Shape.rowMajor_val_three, Shape.rowMajor_val_two]
    show (0 * 32 + e.val) * 2048 + j.val = e.val * 2048 + j.val
    omega)

theorem b2_ap (c : Dev nD) (e : Fin 32) (j : Fin 1024) :
    (V m c main_v57 : FVec F S32x1x1024 .f32) (ix3 e 0 j) = (m (c, main_arg5) : FVec F S1x32x1024 .f32) (ix3 0 e j) := by
  refine (congrFun (V_b2 m c) _).trans ?_
  refine (shapeCast_apply _ _ _ (ix2 e j) (by
    rw [Shape.rowMajor_val_three, Shape.rowMajor_val_two]
    show e.val * 1024 + j.val = (e.val * 1 + 0) * 1024 + j.val
    omega)).trans ?_
  exact shapeCast_apply (s := S1x32x1024) _ _ _ _ (by
    rw [Shape.rowMajor_val_three, Shape.rowMajor_val_two]
    show (0 * 32 + e.val) * 1024 + j.val = e.val * 1024 + j.val
    omega)

/-! ## The windows' blocks -/

variable (hO : Ok m) (c : Dev nD) (t : Fin (cfgM m hO).N)

theorem emb0 (y : (((cfgM m hO).win 0).xblock ((cfgM m hO).grid.coords t)).Idx) (a : Fin 2) :
    ((((cfgM m hO).win 0).rect t).emb y a : ℕ) = cc0_transform_0 (grid0.coords t) a * S512x512.size a + (y a).val :=
  ((cfgM m hO).win 0).rect_emb_val t y a rfl

theorem emb3 (y : (((cfgM m hO).win 3).xblock ((cfgM m hO).grid.coords t)).Idx) (a : Fin 2) :
    ((((cfgM m hO).win 3).rect t).emb y a : ℕ) = cc0_transform_5 (grid0.coords t) a * S512x1024.size a + (y a).val :=
  ((cfgM m hO).win 3).rect_emb_val t y a rfl

theorem emb1 (n : ℕ) (hn : n < 32) (hw : tbl m 0 (ix191 (fx t)) = BitVec.ofNat 32 n)
    (y : (((cfgM m hO).win 1).xblock ((cfgM m hO).grid.coords t)).Idx) (a : Fin 3) :
    ((((cfgM m hO).win 1).rect t).emb y a : ℕ) = (![n, 0, 0] : Fin 3 → ℕ) a * S1x1x2048.size a + (y a).val := by
  rw [← tr2_eq (tbl m) t n hn hw]
  exact ((cfgM m hO).win 1).rect_emb_val t y a rfl

theorem emb2 (n : ℕ) (hn : n < 32) (hw : tbl m 0 (ix191 (fx t)) = BitVec.ofNat 32 n)
    (y : (((cfgM m hO).win 2).xblock ((cfgM m hO).grid.coords t)).Idx) (a : Fin 3) :
    ((((cfgM m hO).win 2).rect t).emb y a : ℕ) = (![n, 0, 0] : Fin 3 → ℕ) a * S1x1x1024.size a + (y a).val := by
  rw [← tr4_eq (tbl m) t n hn hw]
  exact ((cfgM m hO).win 2).rect_emb_val t y a rfl

end Cert.KernelIdeal.Moe

end
-- ==== Proof.Spec.lean ====
/- The expert feed-forward of one row, plainly, and what a packed word's halves read as. -/
module

public import proofs.«01_k».proof.Proof.Words
public import Idealize.ShloMosaic.Lib.IdealHost
public import Idealize.ShloMosaic.Lib.KernelVsHost
public import Idealize.ShloMosaic.Lib.MatmulPlain
public import Idealize.ShloMosaic.Lib.StackMember

@[expose] public section

set_option maxRecDepth 16384
set_option maxHeartbeats 1000000

noncomputable section

namespace Cert.KernelIdeal.Moe

open Idealize.ShloMosaic
open scoped BigOperators

/-- A half-width pattern and the same pattern with sixteen zeros below it denote one value. -/
theorem half_value (h : BitVec 16) : Ideal.ieee 8 23 (h ++ 0#16 : BitVec 32) = Ideal.ieee 8 7 h := by
  have e1 : (h ++ 0#16 : BitVec 32).extractLsb' 31 1 = h.extractLsb' 15 1 := by
    apply BitVec.eq_of_getLsbD_eq
    intro i hi
    have h1 : ¬ (31 + i < 16) := by omega
    have h2 : 31 + i - 16 = 15 + i := by omega
    rw [BitVec.getLsbD_extractLsb', BitVec.getLsbD_extractLsb', BitVec.getLsbD_append, if_neg h1, h2]
  have e2 : (h ++ 0#16 : BitVec 32).extractLsb' 23 8 = h.extractLsb' 7 8 := by
    apply BitVec.eq_of_getLsbD_eq
    intro i hi
    have h1 : ¬ (23 + i < 16) := by omega
    have h2 : 23 + i - 16 = 7 + i := by omega
    rw [BitVec.getLsbD_extractLsb', BitVec.getLsbD_extractLsb', BitVec.getLsbD_append, if_neg h1, h2]
  have e3 : ((h ++ 0#16 : BitVec 32).extractLsb' 0 23).toNat = (h.extractLsb' 0 7).toNat * 65536 := by
    simp only [BitVec.extractLsb'_toNat, BitVec.toNat_append, BitVec.toNat_ofNat, Nat.shiftRight_zero]
    simp only [Nat.zero_mod, Nat.or_zero, Nat.shiftLeft_eq]
    omega
  unfold Ideal.ieee
  simp only [e1, e2, e3, show 8 + 23 = 31 from rfl, show 8 + 7 = 15 from rfl]
  have hz : ((h.extractLsb' 0 7).toNat * 65536 = 0) = ((h.extractLsb' 0 7).toNat = 0) := by
    apply propext; omega
  simp only [hz]
  split
  · rfl
  · split
    · congr 1
      have hp : (2 : ℝ) ^ (1 - (2 ^ (8 - 1) - 1) - (7 : ℕ) : ℤ) = (2 : ℝ) ^ (1 - (2 ^ (8 - 1) - 1) - (23 : ℕ) : ℤ) * 65536 := by
        rw [show (1 - (2 ^ (8 - 1) - 1) - (7 : ℕ) : ℤ) = (1 - (2 ^ (8 - 1) - 1) - (23 : ℕ) : ℤ) + 16 by norm_num, zpow_add₀ (by norm_num : (2 : ℝ) ≠ 0)]
        norm_num
      rw [hp]
      push_cast
      ring
    · congr 1
      generalize ((h.extractLsb' 7 8).toNat : ℤ) = E
      have hp : (2 : ℝ) ^ (E - (2 ^ (8 - 1) - 1) - (7 : ℕ) : ℤ) = (2 : ℝ) ^ (E - (2 ^ (8 - 1) - 1) - (23 : ℕ) : ℤ) * 65536 := by
        rw [show (E - (2 ^ (8 - 1) - 1) - (7 : ℕ) : ℤ) = (E - (2 ^ (8 - 1) - 1) - (23 : ℕ) : ℤ) + 16 by push_cast; ring, zpow_add₀ (by norm_num : (2 : ℝ) ≠ 0)]
        norm_num
      rw [hp]
      push_cast
      ring

/-- The low half of a word, and the word with that half shifted up, denote one value. -/
theorem lo_value (w : BitVec 32) : Ideal.ofBits .bf16 (w.extractLsb' 0 16) = Ideal.ofBits .f32 (w <<< (16#32 : BitVec 32)) := by
  show Ideal.ieee 8 7 (w.extractLsb' 0 16) = Ideal.ieee 8 23 (w <<< (16#32 : BitVec 32))
  rw [← half_value]
  congr 1
  apply BitVec.eq_of_getLsbD_eq
  intro i hi
  simp only [BitVec.getLsbD_append, BitVec.shiftLeft_eq', BitVec.toNat_ofNat, BitVec.getLsbD_shiftLeft, BitVec.getLsbD_extractLsb']
  by_cases h : i < 16
  · simp [h]
  · simp [h, hi]; omega

/-- The high half of a word, and the word with its low half cleared, denote one value. -/
theorem hi_value (w : BitVec 32) : Ideal.ofBits .bf16 (w.extractLsb' 16 16) = Ideal.ofBits .f32 (w &&& 4294901760#32) := by
  show Ideal.ieee 8 7 (w.extractLsb' 16 16) = Ideal.ieee 8 23 (w &&& 4294901760#32)
  rw [← half_value]
  congr 1
  apply BitVec.eq_of_getLsbD_eq
  intro i hi
  have hm : (4294901760#32 : BitVec 32).getLsbD i = decide (16 ≤ i) := by
    have : ∀ j : Fin 32, (4294901760#32 : BitVec 32).getLsbD j.val = decide (16 ≤ j.val) := by decide
    exact this ⟨i, hi⟩
  simp only [BitVec.getLsbD_append, BitVec.getLsbD_and, hm, BitVec.getLsbD_extractLsb']
  by_cases h : i < 16
  · have h' : ¬ 16 ≤ i := by omega
    simp [h, h']
  · have h3 : 16 + (i - 16) = i := by omega
    have h4 : i - 16 < 16 := by omega
    have h5 : 16 ≤ i := by omega
    simp [h, h3, h4, h5]

/-- A row's value at a column, from the row's packed words: the low halves, then the high halves. -/
def rowVal (w : Fin 512 → BitVec 32) (k : Fin 1024) : EReal :=
  if h : k.val < 512 then Ideal.ofBits .bf16 ((w ⟨k.val, h⟩).extractLsb' 0 16)
  else Ideal.ofBits .bf16 ((w ⟨k.val - 512, by omega⟩).extractLsb' 16 16)

/-- The gated activation of a gate and an up value. -/
def actVal (g u : EReal) : EReal :=
  (min (Ideal.ofBits .f32 0x40E00000#32) (max (Ideal.ofBits .f32 0xC0E00000#32) u) + Ideal.ofBits .f32 0x3F800000#32)
    * (min g (Ideal.ofBits .f32 0x40E00000#32) * Ideal.logistic (Ideal.ofBits .f32 0x3FD9DB23#32 * min g (Ideal.ofBits .f32 0x40E00000#32)))

/-- The first product's entry with its bias. -/
def guVal (X : Fin 1024 → EReal) (W : Fin 1024 → Fin 2048 → EReal) (b : Fin 2048 → EReal) (j : Fin 2048) : EReal :=
  (∑ k : Fin 1024, X k * W k j) + b j

/-- One row of the expert feed-forward. -/
def ffnVal (X : Fin 1024 → EReal) (W : Fin 1024 → Fin 2048 → EReal) (b : Fin 2048 → EReal) (D : Fin 1024 → Fin 1024 → EReal) (d : Fin 1024 → EReal)
    (j : Fin 1024) : EReal :=
  (∑ k : Fin 1024, actVal (guVal X W b ⟨k.val, by omega⟩) (guVal X W b ⟨1024 + k.val, by omega⟩) * D k j) + d j

end Cert.KernelIdeal.Moe
-- ==== Proof.KerVal.lean ====
/- What the body's block payload holds at an index. -/
module

public import proofs.«01_k».proof.Proof.Spec
public import proofs.«01_k».proof.Proof.Tables

@[expose] public section

set_option maxRecDepth 16384
set_option maxHeartbeats 1000000

noncomputable section

namespace Cert.KernelIdeal.Moe

open Idealize.ShloMosaic Idealize.ShloMosaic.TcCoe Idealize.ShloMosaic.StableHlo
open Idealize.ShloMosaic.Routing Idealize.ShloMosaic.ValueIdx WordCmp
open Cert.KernelIdeal Cert.KernelIdeal.Gen
open Facts
open scoped BigOperators

/-- The unpacked row block. -/
theorem unpacked_ap (v : Vec Ideal S512x512 .i32) (r : Fin 512) (k : Fin 1024) :
    (concatenate S512x1024 1 [⟨S512x512, truncf .bf16 (unpackElementwise (F := Ideal) 0 v) bitsLt_bf16_f32⟩, ⟨S512x512, truncf .bf16 (unpackElementwise (F := Ideal) 1 v) bitsLt_bf16_f32⟩]
      concatenates_S512x512_S512x512_S512x1024_d1 : FVec Ideal S512x1024 .bf16) (ix2 r k) = rowVal (fun q => v (ix2 r q)) k := by
  unfold rowVal
  split
  case isTrue h =>
    rw [concatenate_pair_apply_left (s₁ := S512x512) (s₂ := S512x512) (t := S512x1024) 1 _ _ _ (ix2 r k) rfl (ix2 r ⟨k.val, h⟩) (by
      intro b
      match b with
      | ⟨0, _⟩ => rfl
      | ⟨1, _⟩ => rfl)]
    rfl
  case isFalse h =>
    rw [concatenate_pair_apply_right (s₁ := S512x512) (s₂ := S512x512) (t := S512x1024) 1 _ _ _ (ix2 r k) rfl rfl (ix2 r ⟨k.val - 512, by omega⟩) (by
      intro b hb
      match b, hb with
      | ⟨0, _⟩, hb => rfl
      | ⟨1, _⟩, hb => exact absurd rfl hb) (by show k.val - 512 + 512 = k.val; omega)]
    rfl

/-- A one-row bias broadcast down the rows. -/
theorem bias2048_ap (v : FVec Ideal S1x1x2048 .f32) (r : Fin 512) (j : Fin 2048) :
    (broadcastTo S512x2048 (shapeCast S1x2048 v shapeCasts_S1x1x2048_S1x2048) broadcasts_S1x2048_S512x2048) (ix2 r j) = v (ix3 0 0 j) := by
  rw [broadcastTo_apply _ _ (ix2 r j) (ix2 (0 : Fin 1) j) (by
    intro b
    match b with
    | ⟨0, _⟩ => rfl
    | ⟨1, _⟩ => rfl)]
  exact shapeCast_apply v _ (ix2 (0 : Fin 1) j) (ix3 0 0 j) (by
    rw [Shape.rowMajor_val_three, Shape.rowMajor_val_two]; rfl)

theorem bias1024_ap (v : FVec Ideal S1x1x1024 .f32) (r : Fin 512) (j : Fin 1024) :
    (broadcastTo S512x1024 (shapeCast S1x1024 v shapeCasts_S1x1x1024_S1x1024) broadcasts_S1x1024_S512x1024) (ix2 r j) = v (ix3 0 0 j) := by
  rw [broadcastTo_apply _ _ (ix2 r j) (ix2 (0 : Fin 1) j) (by
    intro b
    match b with
    | ⟨0, _⟩ => rfl
    | ⟨1, _⟩ => rfl)]
  exact shapeCast_apply v _ (ix2 (0 : Fin 1) j) (ix3 0 0 j) (by
    rw [Shape.rowMajor_val_three, Shape.rowMajor_val_two]; rfl)

theorem mm1_ap (A : FVec Ideal S512x1024 .bf16) (B : FVec Ideal S1024x2048 .bf16) (r : Fin 512) (j : Fin 2048) :
    matmul (F := Ideal) dot_S512x1024_S1024x2048_S512x2048_1_0_0_1_n_n none A B (constant S512x2048 .f32 0x00000000#32) (ix2 r j) = ∑ k : Fin 1024, A (ix2 r k) * B (ix2 k j) := by
  refine (Ideal.matmul_plain_apply (M := 512) (K := 1024) (N := 2048) none A B _ r j).trans ?_
  rw [constant_apply]
  show Ideal.ofBits .f32 0x00000000#32 + _ = _
  rw [Ideal.ofBits_zero_f32, zero_add]

theorem mm2_ap (A : FVec Ideal S512x1024 .bf16) (B : FVec Ideal S1024x1024 .bf16) (r : Fin 512) (j : Fin 1024) :
    matmul (F := Ideal) dot_S512x1024_S1024x1024_S512x1024_1_0_0_1_n_n none A B (constant S512x1024 .f32 0x00000000#32) (ix2 r j) = ∑ k : Fin 1024, A (ix2 r k) * B (ix2 k j) := by
  refine (Ideal.matmul_plain_apply (M := 512) (K := 1024) (N := 1024) none A B _ r j).trans ?_
  rw [constant_apply]
  show Ideal.ofBits .f32 0x00000000#32 + _ = _
  rw [Ideal.ofBits_zero_f32, zero_add]

/-- The first product with its bias, as the body holds it. -/
def guK (v13 : Vec Ideal S512x512 .i32) (v19 : FVec Ideal S1024x2048 .bf16) (v21 : FVec Ideal S1x1x2048 .f32) : FVec Ideal S512x2048 .f32 :=
  addf (matmul dot_S512x1024_S1024x2048_S512x2048_1_0_0_1_n_n none (concatenate S512x1024 1 [⟨S512x512, truncf .bf16 (unpackElementwise (F := Ideal) 0 v13) bitsLt_bf16_f32⟩, ⟨S512x512, truncf .bf16 (unpackElementwise (F := Ideal) 1 v13) bitsLt_bf16_f32⟩]
      concatenates_S512x512_S512x512_S512x1024_d1 : FVec Ideal S512x1024 .bf16) v19 (constant S512x2048 .f32 0x00000000#32))
    (broadcastTo S512x2048 (shapeCast S1x2048 v21 shapeCasts_S1x1x2048_S1x2048) broadcasts_S1x2048_S512x2048)

theorem guK_ap (v13 : Vec Ideal S512x512 .i32) (v19 : FVec Ideal S1024x2048 .bf16) (v21 : FVec Ideal S1x1x2048 .f32) (r : Fin 512) (j : Fin 2048) :
    guK v13 v19 v21 (ix2 r j) = guVal (rowVal fun q => v13 (ix2 r q)) (fun k c => v19 (ix2 k c)) (fun c => v21 (ix3 0 0 c)) j := by
  unfold guK
  show FloatOps.addf (F := Ideal) (φ := .f32) _ _ = _
  rw [mm1_ap, bias2048_ap]
  unfold guVal
  simp only [unpacked_ap]
  rfl

/-- The body's activation of the first product. -/
def actK (G : FVec Ideal S512x2048 .f32) : FVec Ideal S512x1024 .f32 :=
  mulf (addf (minimumf (broadcast S512x1024 (Scalar.ofBits .f32 0x40E00000#32)) (maximumf (broadcast S512x1024 (Scalar.ofBits .f32 0xC0E00000#32))
      (extractStridedSlice S512x1024 ![0, 1024] G slices_S512x2048_o0_1024_S512x1024))) (broadcast S512x1024 (Scalar.ofBits .f32 0x3F800000#32)))
    (mulf (minimumf (extractStridedSlice S512x1024 ![0, 0] G slices_S512x2048_o0_0_S512x1024) (broadcast S512x1024 (Scalar.ofBits .f32 0x40E00000#32)))
      (logistic (mulf (broadcast S512x1024 (Scalar.ofBits .f32 0x3FD9DB23#32)) (minimumf (extractStridedSlice S512x1024 ![0, 0] G slices_S512x2048_o0_0_S512x1024) (broadcast S512x1024 (Scalar.ofBits .f32 0x40E00000#32))))))

theorem actK_ap (G : FVec Ideal S512x2048 .f32) (r : Fin 512) (k : Fin 1024) :
    actK G (ix2 r k) = actVal (G (ix2 r ⟨k.val, by omega⟩)) (G (ix2 r ⟨1024 + k.val, by omega⟩)) := by
  have e0 : extractStridedSlice S512x1024 ![0, 0] G slices_S512x2048_o0_0_S512x1024 (ix2 r k) = G (ix2 r ⟨k.val, by omega⟩) :=
    extractStridedSlice_apply _ _ _ _ _ (by
      intro b
      match b with
      | ⟨0, _⟩ => exact (Nat.zero_add _).symm
      | ⟨1, _⟩ => exact (Nat.zero_add _).symm)
  have e1 : extractStridedSlice S512x1024 ![0, 1024] G slices_S512x2048_o0_1024_S512x1024 (ix2 r k) = G (ix2 r ⟨1024 + k.val, by omega⟩) :=
    extractStridedSlice_apply _ _ _ _ _ (by
      intro b
      match b with
      | ⟨0, _⟩ => exact (Nat.zero_add _).symm
      | ⟨1, _⟩ => rfl)
  rw [← e0, ← e1]
  rfl

theorem pay3_eq (v13 : Vec Ideal S512x512 .i32) (v19 : FVec Ideal S1024x2048 .bf16) (v21 : FVec Ideal S1x1x2048 .f32) (v41 : FVec Ideal S1024x1024 .bf16) (v43 : FVec Ideal S1x1x1024 .f32) :
    k0_pay3 (F := Ideal) v13 v19 v21 v41 v43 = addf (matmul dot_S512x1024_S1024x1024_S512x1024_1_0_0_1_n_n none (truncf .bf16 (actK (guK v13 v19 v21)) bitsLt_bf16_f32) v41 (constant S512x1024 .f32 0x00000000#32))
      (broadcastTo S512x1024 (shapeCast S1x1024 v43 shapeCasts_S1x1x1024_S1x1024) broadcasts_S1x1024_S512x1024) := by
  unfold k0_pay3 actK guK
  rfl

theorem pay3_ap (v13 : Vec Ideal S512x512 .i32) (v19 : FVec Ideal S1024x2048 .bf16) (v21 : FVec Ideal S1x1x2048 .f32) (v41 : FVec Ideal S1024x1024 .bf16) (v43 : FVec Ideal S1x1x1024 .f32)
    (r : Fin 512) (j : Fin 1024) :
    k0_pay3 (F := Ideal) v13 v19 v21 v41 v43 (ix2 r j)
      = ffnVal (rowVal fun q => v13 (ix2 r q)) (fun k c => v19 (ix2 k c)) (fun c => v21 (ix3 0 0 c)) (fun k c => v41 (ix2 k c)) (fun c => v43 (ix3 0 0 c)) j := by
  rw [pay3_eq]
  show FloatOps.addf (F := Ideal) (φ := .f32) _ _ = _
  rw [mm2_ap, bias1024_ap]
  unfold ffnVal
  have e : ∀ k : Fin 1024, (truncf .bf16 (actK (guK v13 v19 v21)) bitsLt_bf16_f32 : FVec Ideal S512x1024 .bf16) (ix2 r k)
      = actVal (guVal (rowVal fun q => v13 (ix2 r q)) (fun k c => v19 (ix2 k c)) (fun c => v21 (ix3 0 0 c)) ⟨k.val, by omega⟩)
        (guVal (rowVal fun q => v13 (ix2 r q)) (fun k c => v19 (ix2 k c)) (fun c => v21 (ix3 0 0 c)) ⟨1024 + k.val, by omega⟩) := fun k => by
    rw [← guK_ap v13 v19 v21 r, ← guK_ap v13 v19 v21 r, ← actK_ap]
    rfl
  simp only [e]
  rfl

end Cert.KernelIdeal.Moe
-- ==== Proof.Gathers.lean ====
/- Gathering one matrix or one row per block, at the block's expert. -/
module

public import proofs.«01_k».proof.Proof.Spec
public import Idealize.ShloMosaic.Lib.Routing.OpsSet

@[expose] public section

set_option maxHeartbeats 1000000

noncomputable section

namespace Cert.KernelIdeal.Moe

open Idealize.ShloMosaic Idealize.ShloMosaic.ValueIdx

variable {α : Type}

/-- A matrix per block out of a stack of matrices, read at an index. -/
theorem gather_mats {E n a b : ℕ}
    (wf : GatherDims.WF ⟨3, ![E, a, b]⟩ ⟨2, ![n, 3]⟩ ⟨4, ![n, 1, a, b]⟩ [1, 2, 3] [] [] [0, 1, 2] [] 1 ![1, a, b])
    (x : (⟨3, ![E, a, b]⟩ : Shape).Idx → α) (idx : IVec ⟨2, ![n, 3]⟩ 32) (t : Fin n) (e : Fin E) (hE : E ≤ 2 ^ 31)
    (h0 : idx (ix2 t 0) = BitVec.ofNat 32 e.val) (h1 : idx (ix2 t 1) = 0#32) (h2 : idx (ix2 t 2) = 0#32) (r : Fin a) (c : Fin b) :
    Host.gather (⟨[1, 2, 3], [], [], [], [0, 1, 2], 1, ![1, a, b], wf⟩ : GatherDims _ _ _) x idx (ix4 t 0 r c) = x (ix3 e r c) := by
  unfold Host.gather
  congr 1
  funext ax
  refine Fin.ext ?_
  generalize hd : (⟨[1, 2, 3], [], [], [], [0, 1, 2], 1, ![1, a, b], wf⟩ : GatherDims ⟨3, ![E, a, b]⟩ ⟨2, ![n, 3]⟩ ⟨4, ![n, 1, a, b]⟩) = d
  have hs : ∀ (j : Fin d.startIndexMap.length) (v : Fin 3), j.val = v.val → d.siIdx (ix4 t 0 r c) j = ix2 t v := by
    intro j v hv
    subst hd
    funext bx; refine Fin.ext ?_
    match bx with
    | ⟨0, _⟩ => rfl
    | ⟨1, _⟩ => exact hv
  show d.start (ix4 t 0 r c) idx ax + d.batchCoord (ix4 t 0 r c) ax + d.offCoord (ix4 t 0 r c) ax = _
  rw [GatherDims.batchCoord_eq_zero _ _ _ (by subst hd; exact List.not_mem_nil)]
  have he : (BitVec.ofNat 32 e.val).toInt.toNat = e.val := by
    have := e.isLt
    rw [BitVec.toInt_eq_toNat_of_lt (by rw [BitVec.toNat_ofNat, Nat.mod_eq_of_lt (by omega)]; omega), BitVec.toNat_ofNat, Nat.mod_eq_of_lt (by omega)]; simp
  match ax with
  | ⟨0, _⟩ =>
    have hm : (⟨0, by decide⟩ : Fin 3) ∈ d.startIndexMap := by subst hd; exact (by decide : (⟨0, by decide⟩ : Fin 3) ∈ ([0, 1, 2] : List (Fin 3)))
    unfold GatherDims.start
    rw [dif_pos hm, hs _ 0 (by subst hd; rfl), h0, he]
    subst hd
    show min e.val (E - 1) + 0 + 0 = e.val
    have := e.isLt
    omega
  | ⟨1, _⟩ =>
    have hm : (⟨1, by decide⟩ : Fin 3) ∈ d.startIndexMap := by subst hd; exact (by decide : (⟨1, by decide⟩ : Fin 3) ∈ ([0, 1, 2] : List (Fin 3)))
    unfold GatherDims.start
    rw [dif_pos hm, hs _ 1 (by subst hd; rfl), h1]
    subst hd
    show min 0 (a - a) + 0 + r.val = r.val
    omega
  | ⟨2, _⟩ =>
    have hm : (⟨2, by decide⟩ : Fin 3) ∈ d.startIndexMap := by subst hd; exact (by decide : (⟨2, by decide⟩ : Fin 3) ∈ ([0, 1, 2] : List (Fin 3)))
    unfold GatherDims.start
    rw [dif_pos hm, hs _ 2 (by subst hd; rfl), h2]
    subst hd
    show min 0 (b - b) + 0 + c.val = c.val
    omega

/-- A row per block out of a stack of rows, read at an index. -/
theorem gather_rows {E n b : ℕ}
    (wf : GatherDims.WF ⟨2, ![E, b]⟩ ⟨2, ![n, 2]⟩ ⟨3, ![n, 1, b]⟩ [1, 2] [] [] [0, 1] [] 1 ![1, b])
    (x : (⟨2, ![E, b]⟩ : Shape).Idx → α) (idx : IVec ⟨2, ![n, 2]⟩ 32) (t : Fin n) (e : Fin E) (hE : E ≤ 2 ^ 31)
    (h0 : idx (ix2 t 0) = BitVec.ofNat 32 e.val) (h1 : idx (ix2 t 1) = 0#32) (c : Fin b) :
    Host.gather (⟨[1, 2], [], [], [], [0, 1], 1, ![1, b], wf⟩ : GatherDims _ _ _) x idx (ix3 t 0 c) = x (ix2 e c) := by
  unfold Host.gather
  congr 1
  funext ax
  refine Fin.ext ?_
  generalize hd : (⟨[1, 2], [], [], [], [0, 1], 1, ![1, b], wf⟩ : GatherDims ⟨2, ![E, b]⟩ ⟨2, ![n, 2]⟩ ⟨3, ![n, 1, b]⟩) = d
  have hs : ∀ (j : Fin d.startIndexMap.length) (v : Fin 2), j.val = v.val → d.siIdx (ix3 t 0 c) j = ix2 t v := by
    intro j v hv
    subst hd
    funext bx; refine Fin.ext ?_
    match bx with
    | ⟨0, _⟩ => rfl
    | ⟨1, _⟩ => exact hv
  show d.start (ix3 t 0 c) idx ax + d.batchCoord (ix3 t 0 c) ax + d.offCoord (ix3 t 0 c) ax = _
  rw [GatherDims.batchCoord_eq_zero _ _ _ (by subst hd; exact List.not_mem_nil)]
  have he : (BitVec.ofNat 32 e.val).toInt.toNat = e.val := by
    have := e.isLt
    rw [BitVec.toInt_eq_toNat_of_lt (by rw [BitVec.toNat_ofNat, Nat.mod_eq_of_lt (by omega)]; omega), BitVec.toNat_ofNat, Nat.mod_eq_of_lt (by omega)]; simp
  match ax with
  | ⟨0, _⟩ =>
    have hm : (⟨0, by decide⟩ : Fin 2) ∈ d.startIndexMap := by subst hd; exact (by decide : (⟨0, by decide⟩ : Fin 2) ∈ ([0, 1] : List (Fin 2)))
    unfold GatherDims.start
    rw [dif_pos hm, hs _ 0 (by subst hd; rfl), h0, he]
    subst hd
    show min e.val (E - 1) + 0 + 0 = e.val
    have := e.isLt
    omega
  | ⟨1, _⟩ =>
    have hm : (⟨1, by decide⟩ : Fin 2) ∈ d.startIndexMap := by subst hd; exact (by decide : (⟨1, by decide⟩ : Fin 2) ∈ ([0, 1] : List (Fin 2)))
    unfold GatherDims.start
    rw [dif_pos hm, hs _ 1 (by subst hd; rfl), h1]
    subst hd
    show min 0 (b - b) + 0 + c.val = c.val
    omega

end Cert.KernelIdeal.Moe
-- ==== Proof.RefVal.lean ====
/- The reference's result, read at an index. -/
module

public import proofs.«01_k».proof.Proof.Gathers
public import proofs.«01_k».proof.Proof.Tables
public import proofs.«01_k».proof.Proof.Gen.ReferenceIdeal.Run

@[expose] public section

set_option maxRecDepth 16384
set_option maxHeartbeats 1000000

noncomputable section

namespace Cert.ReferenceIdeal.Moe

open Idealize.ShloMosaic Idealize.ShloMosaic.TcCoe Idealize.ShloMosaic.StableHlo
open Idealize.ShloMosaic.Routing Idealize.ShloMosaic.ValueIdx WordCmp
open Cert.ReferenceIdeal Cert.ReferenceIdeal.Gen
open Cert.KernelIdeal.Moe (Segs rowVal actVal guVal ffnVal gather_mats gather_rows minsi_word lo_value hi_value)
open scoped BigOperators

/-- Each block's expert. -/
def beR (p : IVec S32 32) : IVec S191 32 :=
  minsi (Host.reduce IntOp.addi (extui 32 (cmpi .sle (broadcastInDim S191x32 ![0, 1] bcast_S1x32_S191x32_0_1 (broadcastInDim S1x32 ![1] bcast_S32_S1x32_1 p))
    (broadcastInDim S191x32 ![0, 1] bcast_S191x1_S191x32_0_1 (broadcastInDim S191x1 ![0] bcast_S191_S191x1_0 (muli (iotaInDim S191 32 0) (broadcastInDim S191 ![] bcast_S_S191
    (constantI S_ 32 512#32)))))) natLt_1_32) (constantI S_ 32 0#32) reducesTo_S191x32_S191_d1 h_S_) (broadcastInDim S191 ![] bcast_S_S191 (constantI S_ 32 31#32))

def colR (p : IVec S32 32) : IVec S191x1 32 :=
  broadcastInDim S191x1 ![0] bcast_S191_S191x1_0 (select (cmpi .slt (beR p) (broadcastInDim S191 ![] bcast_S_S191 (constantI S_ 32 0#32)))
    (addi (beR p) (broadcastInDim S191 ![] bcast_S_S191 (constantI S_ 32 32#32))) (beR p))

def zeroR (n : BitVec 32) : IVec S191x1 32 :=
  broadcastInDim S191x1 ![] bcast_S_S191x1 (select (cmpi .slt (constantI S_ 32 0#32) (constantI S_ 32 0#32)) (addi (constantI S_ 32 0#32) (constantI S_ 32 n)) (constantI S_ 32 0#32))

def idx3 (p : IVec S32 32) (a b : BitVec 32) : IVec S191x3 32 :=
  concatenate S191x3 1 [⟨S191x1, colR p⟩, ⟨S191x1, zeroR a⟩, ⟨S191x1, zeroR b⟩] concatenates_S191x1_S191x1_S191x1_S191x3_d1

def idx2 (p : IVec S32 32) (a : BitVec 32) : IVec S191x2 32 :=
  concatenate S191x2 1 [⟨S191x1, colR p⟩, ⟨S191x1, zeroR a⟩] concatenates_S191x1_S191x1_S191x2_d1

def rowsR (x : IVec S99072x512 32) : FVec Ideal S97792x1024 .f32 :=
  concatenate S97792x1024 1 [⟨S97792x512, (bitcastToFloat (F := Ideal) .f32 (Host.shli (extractStridedSlice S97792x512 ![0, 0] x slices_S99072x512_S97792x512_0_0) (broadcastInDim S97792x512 ![] bcast_S_S97792x512 (constantI S_ 32 16#32))))⟩,
    ⟨S97792x512, (bitcastToFloat (F := Ideal) .f32 (andi (extractStridedSlice S97792x512 ![0, 0] x slices_S99072x512_S97792x512_0_0) (broadcastInDim S97792x512 ![] bcast_S_S97792x512 (constantI S_ 32 4294901760#32))))⟩] concatenates_S97792x512_S97792x512_S97792x1024_d1

def guR (p : IVec S32 32) (x : IVec S99072x512 32) (w : FVec Ideal S1x32x1024x2048 .f32) (b : FVec Ideal S1x32x2048 .f32) : FVec Ideal S191x512x2048 .f32 :=
  addf (Host.dotGeneral dot_S191x512x1024_S191x1024x2048_S191x512x2048_2_1_1_2_0_0 none (shapeCast S191x512x1024 (rowsR x) shapeCasts_S97792x1024_S191x512x1024)
      (shapeCast S191x1024x2048 (Host.gather gather_S32x1024x2048_S191x3_S191x1x1024x2048_123_n_n_n_012_1_110242048 (shapeCast S32x1024x2048 w shapeCasts_S1x32x1024x2048_S32x1024x2048) (idx3 p 1024#32 2048#32)) shapeCasts_S191x1x1024x2048_S191x1024x2048))
    (broadcastInDim S191x512x2048 ![0, 1, 2] bcast_S191x1x2048_S191x512x2048_0_1_2 (broadcastInDim S191x1x2048 ![0, 2] bcast_S191x2048_S191x1x2048_0_2
      (shapeCast S191x2048 (Host.gather gather_S32x2048_S191x2_S191x1x2048_12_n_n_n_01_1_12048 (shapeCast S32x2048 b shapeCasts_S1x32x2048_S32x2048) (idx2 p 2048#32)) shapeCasts_S191x1x2048_S191x2048)))

def gateR (G : FVec Ideal S191x512x2048 .f32) : FVec Ideal S191x512x1024 .f32 :=
  minimumf (extractStridedSlice S191x512x1024 ![0, 0, 0] G slices_S191x512x2048_S191x512x1024_0_0_0) (broadcastInDim S191x512x1024 ![] bcast_S_S191x512x1024 (constant S_ .f32 0x40E00000#32))

def actR (G : FVec Ideal S191x512x2048 .f32) : FVec Ideal S191x512x1024 .f32 :=
  mulf (addf (minimumf (broadcastInDim S191x512x1024 ![] bcast_S_S191x512x1024 (id (constant S_ .f32 0x40E00000#32))) (maximumf (broadcastInDim S191x512x1024 ![]
      bcast_S_S191x512x1024 (id (constant S_ .f32 0xC0E00000#32))) (extractStridedSlice S191x512x1024 ![0, 0, 1024] G slices_S191x512x2048_S191x512x1024_0_0_1024)))
      (broadcastInDim S191x512x1024 ![] bcast_S_S191x512x1024 (constant S_ .f32 0x3F800000#32)))
    (mulf (gateR G) (Host.divf (broadcastInDim S191x512x1024 ![] bcast_S_S191x512x1024 (constant S_ .f32 0x3F800000#32)) (addf (broadcastInDim S191x512x1024 ![] bcast_S_S191x512x1024 (constant S_ .f32 0x3F800000#32))
      (Host.exp (Host.negf (mulf (broadcastInDim S191x512x1024 ![] bcast_S_S191x512x1024 (constant S_ .f32 0x3FD9DB23#32)) (gateR G)))))))

def outR (p : IVec S32 32) (A : FVec Ideal S191x512x1024 .f32) (d : FVec Ideal S1x32x1024x1024 .f32) (e : FVec Ideal S1x32x1024 .f32) : FVec Ideal S191x512x1024 .f32 :=
  addf (Host.dotGeneral dot_S191x512x1024_S191x1024x1024_S191x512x1024_2_1_1_2_0_0 none A
      (shapeCast S191x1024x1024 (Host.gather gather_S32x1024x1024_S191x3_S191x1x1024x1024_123_n_n_n_012_1_110241024 (shapeCast S32x1024x1024 d shapeCasts_S1x32x1024x1024_S32x1024x1024) (idx3 p 1024#32 1024#32)) shapeCasts_S191x1x1024x1024_S191x1024x1024))
    (broadcastInDim S191x512x1024 ![0, 1, 2] bcast_S191x1x1024_S191x512x1024_0_1_2 (broadcastInDim S191x1x1024 ![0, 2] bcast_S191x1024_S191x1x1024_0_2
      (shapeCast S191x1024 (Host.gather gather_S32x1024_S191x2_S191x1x1024_12_n_n_n_01_1_11024 (shapeCast S32x1024 e shapeCasts_S1x32x1024_S32x1024) (idx2 p 1024#32)) shapeCasts_S191x1x1024_S191x1024)))

def maskR (p : IVec S32 32) : IVec S97792x1024 1 :=
  broadcastInDim S97792x1024 ![0, 1] bcast_S97792x1_S97792x1024_0_1 (cmpi .slt (broadcastInDim S97792x1 ![0] bcast_S97792_S97792x1_0 (iotaInDim S97792 32 0))
    (broadcastInDim S97792x1 ![] bcast_S_S97792x1 (shapeCast S_ (extractStridedSlice S1 ![31] p slices_S32_S1_31) shapeCasts_S1_S_)))

/-- The reference's result, by stages. -/
def refR (p : IVec S32 32) (x : IVec S99072x512 32) (w : FVec Ideal S1x32x1024x2048 .f32) (b : FVec Ideal S1x32x2048 .f32) (d : FVec Ideal S1x32x1024x1024 .f32) (e : FVec Ideal S1x32x1024 .f32) :
    FVec Ideal S97792x1024 .f32 :=
  select (maskR p) (shapeCast S97792x1024 (outR p (actR (guR p x w b)) d e) shapeCasts_S191x512x1024_S97792x1024)
    (broadcastInDim S97792x1024 ![] bcast_S_S97792x1024 (id (constant S_ .f32 0x00000000#32)))

theorem res_eq (m : (ℓ : Loc nD τ sig) → Buf (Elt Ideal) ℓ) (c : Dev nD) :
    Cert.ReferenceIdeal.Value.res_main_v117 (F := Ideal) m c
      = refR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v117 refR maskR outR actR gateR guR rowsR idx3 idx2 zeroR colR beR
  rfl

end Cert.ReferenceIdeal.Moe
-- ==== Proof.RefAt.lean ====
/- The reference's stages, read at an index. -/
module

public import proofs.«01_k».proof.Proof.RefVal

@[expose] public section

set_option maxRecDepth 16384
set_option maxHeartbeats 1000000

noncomputable section

namespace Cert.ReferenceIdeal.Moe

open Idealize.ShloMosaic Idealize.ShloMosaic.TcCoe Idealize.ShloMosaic.StableHlo
open Idealize.ShloMosaic.Routing Idealize.ShloMosaic.ValueIdx WordCmp
open Cert.ReferenceIdeal Cert.ReferenceIdeal.Gen
open Cert.KernelIdeal.Moe (Segs rowVal actVal guVal ffnVal gather_mats gather_rows minsi_word lo_value hi_value)
open scoped BigOperators

/-- A row of a block, among all the rows. -/
def rowOf (t : Fin 191) (r : Fin 512) : Fin 97792 := ⟨512 * t.val + r.val, by omega⟩
def rowOf' (t : Fin 191) (r : Fin 512) : Fin 99072 := ⟨512 * t.val + r.val, by omega⟩

theorem zeroR_ap (n : BitVec 32) (t : Fin 191) (q : Fin 1) : zeroR n (ix2 t q) = 0#32 := by
  unfold zeroR
  rw [bc0]
  rfl

theorem rowsR_ap (x : IVec S99072x512 32) (t : Fin 191) (r : Fin 512) (k : Fin 1024) :
    rowsR x (ix2 (rowOf t r) k) = rowVal (fun q => x (ix2 (rowOf' t r) q)) k := by
  unfold rowsR rowVal
  have es : ∀ q : Fin 512, extractStridedSlice S97792x512 ![0, 0] x slices_S99072x512_S97792x512_0_0 (ix2 (rowOf t r) q) = x (ix2 (rowOf' t r) q) := fun q =>
    extractStridedSlice_apply _ _ _ _ _ (by
      intro b
      match b with
      | ⟨0, _⟩ => exact (Nat.zero_add _).symm
      | ⟨1, _⟩ => exact (Nat.zero_add _).symm)
  split
  case isTrue h =>
    rw [concatenate_pair_apply_left (s₁ := S97792x512) (s₂ := S97792x512) (t := S97792x1024) 1 _ _ _ (ix2 (rowOf t r) k) rfl (ix2 (rowOf t r) ⟨k.val, h⟩) (by
      intro b
      match b with
      | ⟨0, _⟩ => rfl
      | ⟨1, _⟩ => rfl)]
    rw [lo_value]
    exact Eq.trans rfl (congrArg (fun v : BitVec 32 => Ideal.ofBits .f32 (v <<< (16#32 : BitVec 32))) (es ⟨k.val, h⟩))
  case isFalse h =>
    rw [concatenate_pair_apply_right (s₁ := S97792x512) (s₂ := S97792x512) (t := S97792x1024) 1 _ _ _ (ix2 (rowOf t r) k) rfl rfl (ix2 (rowOf t r) ⟨k.val - 512, by omega⟩) (by
      intro b hb
      match b, hb with
      | ⟨0, _⟩, hb => rfl
      | ⟨1, _⟩, hb => exact absurd rfl hb) (by show k.val - 512 + 512 = k.val; omega)]
    rw [hi_value]
    exact Eq.trans rfl (congrArg (fun v : BitVec 32 => Ideal.ofBits .f32 (v &&& 4294901760#32)) (es ⟨k.val - 512, by omega⟩))

theorem gateR_ap (G : FVec Ideal S191x512x2048 .f32) (t : Fin 191) (r : Fin 512) (k : Fin 1024) :
    gateR G (ix3 t r k) = min (G (ix3 t r ⟨k.val, by omega⟩)) (Ideal.ofBits .f32 0x40E00000#32) := by
  have e0 : extractStridedSlice S191x512x1024 ![0, 0, 0] G slices_S191x512x2048_S191x512x1024_0_0_0 (ix3 t r k) = G (ix3 t r ⟨k.val, by omega⟩) :=
    extractStridedSlice_apply _ _ _ _ _ (by
      intro b
      match b with
      | ⟨0, _⟩ => exact (Nat.zero_add _).symm
      | ⟨1, _⟩ => exact (Nat.zero_add _).symm
      | ⟨2, _⟩ => exact (Nat.zero_add _).symm)
  rw [← e0]
  rfl

theorem actR_ap (G : FVec Ideal S191x512x2048 .f32) (t : Fin 191) (r : Fin 512) (k : Fin 1024) :
    actR G (ix3 t r k) = actVal (G (ix3 t r ⟨k.val, by omega⟩)) (G (ix3 t r ⟨1024 + k.val, by omega⟩)) := by
  have e1 : extractStridedSlice S191x512x1024 ![0, 0, 1024] G slices_S191x512x2048_S191x512x1024_0_0_1024 (ix3 t r k) = G (ix3 t r ⟨1024 + k.val, by omega⟩) :=
    extractStridedSlice_apply _ _ _ _ _ (by
      intro b
      match b with
      | ⟨0, _⟩ => exact (Nat.zero_add _).symm
      | ⟨1, _⟩ => exact (Nat.zero_add _).symm
      | ⟨2, _⟩ => rfl)
  have h1 : Ideal.logistic (Ideal.ofBits .f32 0x3FD9DB23#32 * gateR G (ix3 t r k))
      = Ideal.div (Ideal.ofBits .f32 0x3F800000#32) (Ideal.ofBits .f32 0x3F800000#32 + Ideal.exp (-(Ideal.ofBits .f32 0x3FD9DB23#32 * gateR G (ix3 t r k)))) := by
    rw [Ideal.ofBits_one_f32]; rfl
  unfold actVal
  rw [← e1, ← gateR_ap, h1]
  rfl

section
variable (p : IVec S32 32) (s : Segs) (hp : ∀ e : Fin 32, p (ix1 e) = BitVec.ofNat 32 (512 * s.k e.val))
include hp

theorem beR_ap (t : Fin 191) : beR p (ix1 t) = BitVec.ofNat 32 (s.be t.val) := by
  unfold beR
  have hc := reduce_count (n := 191) (m := 32) (by omega) (cmpi .sle
      (broadcastInDim S191x32 ![0, 1] bcast_S1x32_S191x32_0_1 (broadcastInDim S1x32 ![1] bcast_S32_S1x32_1 p))
      (broadcastInDim S191x32 ![0, 1] bcast_S191x1_S191x32_0_1 (broadcastInDim S191x1 ![0] bcast_S191_S191x1_0 (muli (iotaInDim S191 32 0) (broadcastInDim S191 ![] bcast_S_S191 (constantI S_ 32 512#32)))))) natLt_1_32 reducesTo_S191x32_S191_d1 h_S_ t (fun e => s.k e ≤ t.val)
    (by
      intro q
      have h1 := s.le q.val
      rw [cmpi_at, bcCols (n := 191) (m := 32), bcRows (n := 191) (m := 32), hp q, muli_ap, bc0, constantI_at, iota1_ap]
      rw [show BitVec.ofNat 32 t.val * 512#32 = BitVec.ofNat 32 (t.val * 512) by rw [BitVec.ofNat_mul]]
      have ht := t.isLt
      rw [cmpi_sle_ofNat (by omega) (by omega)]
      have : (512 * s.k q.val ≤ t.val * 512) ↔ s.k q.val ≤ t.val := by omega
      by_cases h : s.k q.val ≤ t.val <;> simp [this, h])
  show IntOp.minsi (Host.reduce IntOp.addi _ _ _ _ (ix1 t)) (broadcastInDim S191 ![] bcast_S_S191 (constantI S_ 32 31#32) (ix1 t)) = _
  rw [hc, bc0, constantI_at]
  have := Nat.count_le (p := fun e => s.k e ≤ t.val) (n := 32)
  exact minsi_word (b := 31) (by omega) (by omega)

theorem colR_ap (t : Fin 191) (q : Fin 1) : colR p (ix2 t q) = BitVec.ofNat 32 (s.be t.val) := by
  obtain rfl : q = 0 := Subsingleton.elim _ _
  have hb := s.be_lt t.val
  unfold colR
  rw [bcCol (n := 191), select_at, cmpi_at, beR_ap p s hp, bc0, constantI_at, show (0#32 : BitVec 32) = BitVec.ofNat 32 0 from rfl, cmpi_slt_ofNat (by omega) (by omega)]
  unfold Scalar.select
  rw [if_neg (by simp)]

theorem idx3_ap0 (a b : BitVec 32) (t : Fin 191) : idx3 p a b (ix2 t 0) = BitVec.ofNat 32 (s.be t.val) := by
  unfold idx3
  rw [concatenate_apply_piece (t := S191x3) 1 _ _ (ix2 t 0) 0 (by show 0 < 3; decide) S191x1 (colR p) rfl rfl 0 rfl (ix2 t 0) (by
    intro c hc
    match c, hc with
    | ⟨0, _⟩, _ => rfl
    | ⟨1, _⟩, hc => exact absurd rfl hc) rfl]
  exact colR_ap p s hp t 0
omit hp in
theorem idx3_ap1 (a b : BitVec 32) (t : Fin 191) : idx3 p a b (ix2 t 1) = 0#32 := by
  unfold idx3
  rw [concatenate_apply_piece (t := S191x3) 1 _ _ (ix2 t 1) 1 (by show 1 < 3; decide) S191x1 (zeroR a) rfl rfl 1 rfl (ix2 t 0) (by
    intro c hc
    match c, hc with
    | ⟨0, _⟩, _ => rfl
    | ⟨1, _⟩, hc => exact absurd rfl hc) rfl]
  exact zeroR_ap a t 0
omit hp in
theorem idx3_ap2 (a b : BitVec 32) (t : Fin 191) : idx3 p a b (ix2 t 2) = 0#32 := by
  unfold idx3
  rw [concatenate_apply_piece (t := S191x3) 1 _ _ (ix2 t 2) 2 (by show 2 < 3; decide) S191x1 (zeroR b) rfl rfl 2 rfl (ix2 t 0) (by
    intro c hc
    match c, hc with
    | ⟨0, _⟩, _ => rfl
    | ⟨1, _⟩, hc => exact absurd rfl hc) rfl]
  exact zeroR_ap b t 0
theorem idx2_ap0 (a : BitVec 32) (t : Fin 191) : idx2 p a (ix2 t 0) = BitVec.ofNat 32 (s.be t.val) := by
  unfold idx2
  rw [concatenate_apply_piece (t := S191x2) 1 _ _ (ix2 t 0) 0 (by show 0 < 2; decide) S191x1 (colR p) rfl rfl 0 rfl (ix2 t 0) (by
    intro c hc
    match c, hc with
    | ⟨0, _⟩, _ => rfl
    | ⟨1, _⟩, hc => exact absurd rfl hc) rfl]
  exact colR_ap p s hp t 0
omit hp in
theorem idx2_ap1 (a : BitVec 32) (t : Fin 191) : idx2 p a (ix2 t 1) = 0#32 := by
  unfold idx2
  rw [concatenate_apply_piece (t := S191x2) 1 _ _ (ix2 t 1) 1 (by show 1 < 2; decide) S191x1 (zeroR a) rfl rfl 1 rfl (ix2 t 0) (by
    intro c hc
    match c, hc with
    | ⟨0, _⟩, _ => rfl
    | ⟨1, _⟩, hc => exact absurd rfl hc) rfl]
  exact zeroR_ap a t 0

theorem wgu_ap (w : FVec Ideal S1x32x1024x2048 .f32) (t : Fin 191) (k : Fin 1024) (j : Fin 2048) :
    shapeCast S191x1024x2048 (Host.gather gather_S32x1024x2048_S191x3_S191x1x1024x2048_123_n_n_n_012_1_110242048 (shapeCast S32x1024x2048 w shapeCasts_S1x32x1024x2048_S32x1024x2048) (idx3 p 1024#32 2048#32)) shapeCasts_S191x1x1024x2048_S191x1024x2048 (ix3 t k j)
      = w (ix4 0 (s.beF t.val) k j) := by
  rw [shapeCast_apply _ shapeCasts_S191x1x1024x2048_S191x1024x2048 (ix3 t k j) (ix4 t 0 k j) (by
    rw [Shape.rowMajor_val_four, Shape.rowMajor_val_three]
    show ((t.val * 1 + 0) * 1024 + k.val) * 2048 + j.val = (t.val * 1024 + k.val) * 2048 + j.val
    omega)]
  refine (gather_mats (E := 32) (n := 191) (a := 1024) (b := 2048) _ _ _ t (s.beF t.val) (by norm_num) (idx3_ap0 p s hp _ _ t) (idx3_ap1 p _ _ t) (idx3_ap2 p _ _ t) k j).trans ?_
  exact shapeCast_apply w _ (ix3 (s.beF t.val) k j) (ix4 0 (s.beF t.val) k j) (by
    rw [Shape.rowMajor_val_four, Shape.rowMajor_val_three]
    show ((0 * 32 + (s.beF t.val).val) * 1024 + k.val) * 2048 + j.val = ((s.beF t.val).val * 1024 + k.val) * 2048 + j.val
    omega)

theorem wd_ap (w : FVec Ideal S1x32x1024x1024 .f32) (t : Fin 191) (k : Fin 1024) (j : Fin 1024) :
    shapeCast S191x1024x1024 (Host.gather gather_S32x1024x1024_S191x3_S191x1x1024x1024_123_n_n_n_012_1_110241024 (shapeCast S32x1024x1024 w shapeCasts_S1x32x1024x1024_S32x1024x1024) (idx3 p 1024#32 1024#32)) shapeCasts_S191x1x1024x1024_S191x1024x1024 (ix3 t k j)
      = w (ix4 0 (s.beF t.val) k j) := by
  rw [shapeCast_apply _ shapeCasts_S191x1x1024x1024_S191x1024x1024 (ix3 t k j) (ix4 t 0 k j) (by
    rw [Shape.rowMajor_val_four, Shape.rowMajor_val_three]
    show ((t.val * 1 + 0) * 1024 + k.val) * 1024 + j.val = (t.val * 1024 + k.val) * 1024 + j.val
    omega)]
  refine (gather_mats (E := 32) (n := 191) (a := 1024) (b := 1024) _ _ _ t (s.beF t.val) (by norm_num) (idx3_ap0 p s hp _ _ t) (idx3_ap1 p _ _ t) (idx3_ap2 p _ _ t) k j).trans ?_
  exact shapeCast_apply w _ (ix3 (s.beF t.val) k j) (ix4 0 (s.beF t.val) k j) (by
    rw [Shape.rowMajor_val_four, Shape.rowMajor_val_three]
    show ((0 * 32 + (s.beF t.val).val) * 1024 + k.val) * 1024 + j.val = ((s.beF t.val).val * 1024 + k.val) * 1024 + j.val
    omega)

theorem bgu_ap (w : FVec Ideal S1x32x2048 .f32) (t : Fin 191) (r : Fin 512) (j : Fin 2048) :
    broadcastInDim S191x512x2048 ![0, 1, 2] bcast_S191x1x2048_S191x512x2048_0_1_2 (broadcastInDim S191x1x2048 ![0, 2] bcast_S191x2048_S191x1x2048_0_2
      (shapeCast S191x2048 (Host.gather gather_S32x2048_S191x2_S191x1x2048_12_n_n_n_01_1_12048 (shapeCast S32x2048 w shapeCasts_S1x32x2048_S32x2048) (idx2 p 2048#32)) shapeCasts_S191x1x2048_S191x2048)) (ix3 t r j)
      = w (ix3 0 (s.beF t.val) j) := by
  rw [broadcastInDim_apply _ _ _ (ix3 t r j) (ix3 t 0 j) (by
    intro b
    match b with
    | ⟨0, _⟩ => rfl
    | ⟨1, _⟩ => rfl
    | ⟨2, _⟩ => rfl)]
  rw [broadcastInDim_apply _ _ _ (ix3 t 0 j) (ix2 t j) (by
    intro b
    match b with
    | ⟨0, _⟩ => rfl
    | ⟨1, _⟩ => rfl)]
  rw [shapeCast_apply _ shapeCasts_S191x1x2048_S191x2048 (ix2 t j) (ix3 t 0 j) (by
    rw [Shape.rowMajor_val_three, Shape.rowMajor_val_two]
    show (t.val * 1 + 0) * 2048 + j.val = t.val * 2048 + j.val
    omega)]
  refine (gather_rows (E := 32) (n := 191) (b := 2048) _ _ _ t (s.beF t.val) (by norm_num) (idx2_ap0 p s hp _ t) (idx2_ap1 p _ t) j).trans ?_
  exact shapeCast_apply w _ (ix2 (s.beF t.val) j) (ix3 0 (s.beF t.val) j) (by
    rw [Shape.rowMajor_val_three, Shape.rowMajor_val_two]
    show (0 * 32 + (s.beF t.val).val) * 2048 + j.val = (s.beF t.val).val * 2048 + j.val
    omega)

theorem bd_ap (w : FVec Ideal S1x32x1024 .f32) (t : Fin 191) (r : Fin 512) (j : Fin 1024) :
    broadcastInDim S191x512x1024 ![0, 1, 2] bcast_S191x1x1024_S191x512x1024_0_1_2 (broadcastInDim S191x1x1024 ![0, 2] bcast_S191x1024_S191x1x1024_0_2
      (shapeCast S191x1024 (Host.gather gather_S32x1024_S191x2_S191x1x1024_12_n_n_n_01_1_11024 (shapeCast S32x1024 w shapeCasts_S1x32x1024_S32x1024) (idx2 p 1024#32)) shapeCasts_S191x1x1024_S191x1024)) (ix3 t r j)
      = w (ix3 0 (s.beF t.val) j) := by
  rw [broadcastInDim_apply _ _ _ (ix3 t r j) (ix3 t 0 j) (by
    intro b
    match b with
    | ⟨0, _⟩ => rfl
    | ⟨1, _⟩ => rfl
    | ⟨2, _⟩ => rfl)]
  rw [broadcastInDim_apply _ _ _ (ix3 t 0 j) (ix2 t j) (by
    intro b
    match b with
    | ⟨0, _⟩ => rfl
    | ⟨1, _⟩ => rfl)]
  rw [shapeCast_apply _ shapeCasts_S191x1x1024_S191x1024 (ix2 t j) (ix3 t 0 j) (by
    rw [Shape.rowMajor_val_three, Shape.rowMajor_val_two]
    show (t.val * 1 + 0) * 1024 + j.val = t.val * 1024 + j.val
    omega)]
  refine (gather_rows (E := 32) (n := 191) (b := 1024) _ _ _ t (s.beF t.val) (by norm_num) (idx2_ap0 p s hp _ t) (idx2_ap1 p _ t) j).trans ?_
  exact shapeCast_apply w _ (ix2 (s.beF t.val) j) (ix3 0 (s.beF t.val) j) (by
    rw [Shape.rowMajor_val_three, Shape.rowMajor_val_two]
    show (0 * 32 + (s.beF t.val).val) * 1024 + j.val = (s.beF t.val).val * 1024 + j.val
    omega)

theorem guR_ap (x : IVec S99072x512 32) (w : FVec Ideal S1x32x1024x2048 .f32) (b : FVec Ideal S1x32x2048 .f32) (t : Fin 191) (r : Fin 512) (j : Fin 2048) :
    guR p x w b (ix3 t r j)
      = guVal (rowVal fun q => x (ix2 (rowOf' t r) q)) (fun k c => w (ix4 0 (s.beF t.val) k c)) (fun c => b (ix3 0 (s.beF t.val) c)) j := by
  unfold guR
  show FloatOps.addf (F := Ideal) (φ := .f32) _ _ = _
  rw [bgu_ap p s hp]
  unfold guVal
  refine congrArg (· + b (ix3 0 (s.beF t.val) j)) ?_
  refine (StackMember.dotGeneral_stack_apply (G := 191) (m := 512) (n := 2048) (k := 1024) _ none _ _ t r j).trans (Finset.sum_congr rfl fun k _ => ?_)
  rw [wgu_ap p s hp, ← rowsR_ap]
  refine congrArg (· * w (ix4 0 (s.beF t.val) k j)) ?_
  exact shapeCast_apply _ _ (ix3 t r k) (ix2 (rowOf t r) k) (by
    rw [Shape.rowMajor_val_three, Shape.rowMajor_val_two]
    show (512 * t.val + r.val) * 1024 + k.val = (t.val * 512 + r.val) * 1024 + k.val
    omega)

theorem outR_ap (A : FVec Ideal S191x512x1024 .f32) (d : FVec Ideal S1x32x1024x1024 .f32) (e : FVec Ideal S1x32x1024 .f32) (t : Fin 191) (r : Fin 512) (j : Fin 1024) :
    outR p A d e (ix3 t r j) = (∑ k : Fin 1024, A (ix3 t r k) * d (ix4 0 (s.beF t.val) k j)) + e (ix3 0 (s.beF t.val) j) := by
  unfold outR
  show FloatOps.addf (F := Ideal) (φ := .f32) _ _ = _
  rw [bd_ap p s hp]
  refine congrArg (· + e (ix3 0 (s.beF t.val) j)) ?_
  refine (StackMember.dotGeneral_stack_apply (G := 191) (m := 512) (n := 1024) (k := 1024) _ none _ _ t r j).trans (Finset.sum_congr rfl fun k _ => ?_)
  rw [wd_ap p s hp]

theorem maskR_ap (t : Fin 191) (r : Fin 512) (j : Fin 1024) : maskR p (ix2 (rowOf t r) j) = BitVec.ofBool (decide (t.val < s.nu)) := by
  unfold maskR
  have h1 := s.le 31
  have ht := t.isLt
  have hr := r.isLt
  rw [broadcastInDim_apply _ _ _ (ix2 (rowOf t r) j) (ix2 (rowOf t r) (0 : Fin 1)) (by
    intro b
    match b with
    | ⟨0, _⟩ => rfl
    | ⟨1, _⟩ => rfl)]
  rw [cmpi_at, bcCol (n := 97792), bc0, iota1_ap]
  rw [shapeCast_apply (extractStridedSlice S1 ![31] p slices_S32_S1_31) shapeCasts_S1_S_ ValueIdx.ix0 (ix1 (0 : Fin 1))
      ((Nat.lt_one_iff.mp (Fin.isLt _)).trans (Nat.lt_one_iff.mp (Fin.isLt _)).symm)]
  rw [slice1 (m := 32) (n := 1) 31 p _ 0 (by decide)]
  rw [show p (ix1 (⟨31 + (0 : Fin 1).val, by decide⟩ : Fin 32)) = BitVec.ofNat 32 (512 * s.k 31) from hp 31]
  rw [cmpi_slt_ofNat (by show 512 * t.val + r.val < 2 ^ 31; omega) (by omega)]
  congr 2
  apply propext
  show 512 * t.val + r.val < 512 * s.k 31 ↔ t.val < s.k 31
  omega

/-- The reference's result at a row and a column. -/
theorem refR_ap (x : IVec S99072x512 32) (w : FVec Ideal S1x32x1024x2048 .f32) (b : FVec Ideal S1x32x2048 .f32) (d : FVec Ideal S1x32x1024x1024 .f32) (e : FVec Ideal S1x32x1024 .f32)
    (t : Fin 191) (r : Fin 512) (j : Fin 1024) :
    refR p x w b d e (ix2 (rowOf t r) j) = if t.val < s.nu then
      ffnVal (rowVal fun q => x (ix2 (rowOf' t r) q)) (fun k c => w (ix4 0 (s.beF t.val) k c)) (fun c => b (ix3 0 (s.beF t.val) c))
        (fun k c => d (ix4 0 (s.beF t.val) k c)) (fun c => e (ix3 0 (s.beF t.val) c)) j
      else Ideal.ofBits .f32 0x00000000#32 := by
  unfold refR
  rw [select_at, maskR_ap p s hp]
  unfold Scalar.select
  by_cases h : t.val < s.nu
  · rw [if_pos (by simp [h]), if_pos h]
    rw [shapeCast_apply _ shapeCasts_S191x512x1024_S97792x1024 (ix2 (rowOf t r) j) (ix3 t r j) (by
      rw [Shape.rowMajor_val_three, Shape.rowMajor_val_two]
      show (t.val * 512 + r.val) * 1024 + j.val = (512 * t.val + r.val) * 1024 + j.val
      omega)]
    rw [outR_ap p s hp]
    unfold ffnVal
    simp only [actR_ap, guR_ap p s hp]
  · rw [if_neg (by simp [h]), if_neg h, bc0]
    rfl
end

end Cert.ReferenceIdeal.Moe
-- ==== Proof.KerBlk.lean ====
/- The call's result array: each block the body leaves is the reference's at the same rows. -/
module

public import proofs.«01_k».proof.Proof.KerIdx
public import proofs.«01_k».proof.Proof.KerVal
public import proofs.«01_k».proof.Proof.RefAt

@[expose] public section

set_option maxRecDepth 16384
set_option maxHeartbeats 1000000

noncomputable section

namespace Cert.KernelIdeal.Moe

open Idealize.ShloMosaic Idealize.ShloMosaic.TcCoe Idealize.ShloMosaic.StableHlo
open Idealize.ShloMosaic.ValueIdx (ix2 ix3 ix4)
open Idealize.ShloMosaic.Pipeline (Dat Cfg Window)
open Cert.KernelIdeal Cert.KernelIdeal.Gen
open Cert.ReferenceIdeal.Moe (rowOf rowOf' refR refR_ap)
open Facts

section Blocks
variable {F : FTy → Type} [FloatOps F] (m : (ℓ : Loc nD τ sig) → Buf (Elt F) ℓ)
variable (hO : Ok m) (c : Dev nD) (t : Fin (cfgM m hO).N)

theorem xblk_ap (r q : Fin 512) : xblk m hO c t (ix2 r q) = (m (c, main_arg1) : IVec S99072x512 32) (ix2 (rowOf' (fx t) r) q) := by
  have hm : ((cfgM m hO).win 0).moved ((cfgM m hO).grid.coords t) (ix2 r q) = true :=
    (((cfgM m hO).win 0).moved_iff _ _).mpr fun a => by
      have := ((ix2 r q : S512x512.Idx) a).isLt
      unfold Window.xsize; rw [show ((cfgM m hO).win 0).clip _ a = none from clip_none _ a]; exact this
  unfold xblk Window.fill
  refine (dif_pos hm).trans ?_
  unfold iblk
  refine Eq.trans (b := (V m c main_arg1 : IVec S99072x512 32) ((((cfgM m hO).win 0).rect t).emb _)) rfl ?_
  refine (congrFun (V_arg1 m c) _).trans (congrArg (m (c, main_arg1)) (funext fun a => Fin.ext ?_))
  refine (emb0 m hO t _ a).trans ?_
  rw [tr0_eq t]
  match a with
  | ⟨0, _⟩ => show t.val * 512 + r.val = 512 * t.val + r.val; omega
  | ⟨1, _⟩ => show 0 * 512 + q.val = q.val; omega

theorem iblk1_ap (e : Fin 32) (hw : tbl m 0 (ix191 (fx t)) = BitVec.ofNat 32 e.val) (j : Fin 2048) :
    (iblk m hO c 1 t : FVec F S1x1x2048 .f32) (ix3 0 0 j) = (m (c, main_arg3) : FVec F S1x32x2048 .f32) (ix3 0 e j) := by
  rw [← b1_ap m c e j]
  unfold iblk
  refine Eq.trans (b := (V m c main_v56 : FVec F S32x1x2048 .f32) ((((cfgM m hO).win 1).rect t).emb (ix3 0 0 j))) rfl ?_
  refine congrArg (V m c main_v56) (funext fun a => Fin.ext ?_)
  refine (emb1 m hO t e.val e.isLt hw _ a).trans ?_
  match a with
  | ⟨0, _⟩ => show e.val * 1 + 0 = e.val; omega
  | ⟨1, _⟩ => rfl
  | ⟨2, _⟩ => show 0 * 2048 + j.val = j.val; omega

theorem iblk2_ap (e : Fin 32) (hw : tbl m 0 (ix191 (fx t)) = BitVec.ofNat 32 e.val) (j : Fin 1024) :
    (iblk m hO c 2 t : FVec F S1x1x1024 .f32) (ix3 0 0 j) = (m (c, main_arg5) : FVec F S1x32x1024 .f32) (ix3 0 e j) := by
  rw [← b2_ap m c e j]
  unfold iblk
  refine Eq.trans (b := (V m c main_v57 : FVec F S32x1x1024 .f32) ((((cfgM m hO).win 2).rect t).emb (ix3 0 0 j))) rfl ?_
  refine congrArg (V m c main_v57) (funext fun a => Fin.ext ?_)
  refine (emb2 m hO t e.val e.isLt hw _ a).trans ?_
  match a with
  | ⟨0, _⟩ => show e.val * 1 + 0 = e.val; omega
  | ⟨1, _⟩ => rfl
  | ⟨2, _⟩ => show 0 * 1024 + j.val = j.val; omega

end Blocks

/-! ## The stored weights -/

theorem pay1_ap (x : FVec Ideal S1024x2048 .f32) (k : Fin 1024) (j : Fin 2048) : k0_pay1 (F := Ideal) x (ix2 k j) = x (ix2 k j) := by
  unfold k0_pay1
  exact shapeCast_apply (s := S1024x2048) _ _ _ (ix2 k j) rfl

theorem pay2_ap (x : FVec Ideal S1024x1024 .f32) (k j : Fin 1024) : k0_pay2 (F := Ideal) x (ix2 k j) = x (ix2 k j) := by
  unfold k0_pay2
  exact shapeCast_apply (s := S1024x1024) _ _ _ (ix2 k j) rfl

/-! ## The result -/

variable (m : (ℓ : Loc nD τ sig) → Buf (Elt Ideal) ℓ)
variable (s : Segs) (hp : ∀ e : Fin 32, (m ((0 : Dev nD), main_arg0) : IVec S32 32) (ValueIdx.ix1 e) = BitVec.ofNat 32 (512 * s.k e.val))

/-- The reference's result, of the kernel's arguments. -/
abbrev refOf (c : Dev nD) : FVec Ideal S97792x1024 .f32 :=
  refR (m (c, main_arg0)) (m (c, main_arg1)) (m (c, main_arg2)) (m (c, main_arg3)) (m (c, main_arg4)) (m (c, main_arg5))

theorem dev0 (c : Dev nD) : c = 0 := Fin.ext (by have : c.val < 1 := c.isLt; show c.val = 0; omega)

include hp in
theorem outAt_ap (hO : Ok m) (c : Dev nD) (t : Fin (cfgM m hO).N) (r : Fin 512) (j : Fin 1024) :
    outAt m hO (sched m s hp) c t (ix2 r j) = refOf m c (ix2 (rowOf (fx t) r) j) := by
  have hp' : ∀ e : Fin 32, (m (c, main_arg0) : IVec S32 32) (ValueIdx.ix1 e) = BitVec.ofNat 32 (512 * s.k e.val) := by
    rw [dev0 c]; exact hp
  refine Eq.trans ?_ (refR_ap _ s hp' _ _ _ _ _ (fx t) r j).symm
  unfold outAt
  show (if t.val < s.nu then _ else _ : FVec Ideal S512x1024 .f32) (ix2 r j) = if t.val < s.nu then _ else _
  by_cases h : t.val < s.nu
  · rw [if_pos h, if_pos h]
    refine (pay3_ap (xblk m hO c t) (k0_pay1 (wguAt c (V m c main_v52) (s.beF t.val))) (iblk m hO c 1 t) (k0_pay2 (wdAt c (V m c main_v54) (s.beF t.val))) (iblk m hO c 2 t) r j).trans ?_
    have hw : tbl m 0 (ix191 (fx t)) = BitVec.ofNat 32 (s.beF t.val).val := tb_ap m s hp (fx t)
    congr 1
    · funext k
      congr 1
      funext q
      exact xblk_ap m hO c t r q
    · funext k d
      rw [pay1_ap]
      exact (wguAt_ap c _ _ k d).trans (w1_ap m c _ k d)
    · funext d
      exact iblk1_ap m hO c t (s.beF t.val) hw d
    · funext k d
      rw [pay2_ap]
      exact (wdAt_ap c _ _ k d).trans (w2_ap m c _ k d)
    · funext d
      exact iblk2_ap m hO c t (s.beF t.val) hw d
  · rw [if_neg h, if_neg h]
    rfl

theorem flush3 (hO : Ok m) (t : Fin (cfgM m hO).N) : ((cfgM m hO).win 3).flush t = true := by
  have key : ∀ t : Fin grid0.N, (t.val + 1 = grid0.N ∨ ∃ h : t.val + 1 < grid0.N, cc0_transform_5 (grid0.coords ⟨t.val + 1, h⟩) ≠ cc0_transform_5 (grid0.coords t)) := by
    intro t
    by_cases h : t.val + 1 < grid0.N
    · refine Or.inr ⟨h, fun e => ?_⟩
      rw [tr5_eq, tr5_eq] at e
      have := congrFun e 0
      have : t.val + 1 = t.val := this
      omega
    · exact Or.inl (by have := t.isLt; omega)
  unfold Window.flush
  rw [Bool.and_eq_true, Bool.or_eq_true, decide_eq_true_eq, decide_eq_true_eq]
  exact ⟨rfl, key t⟩

include hp in
/-- The call leaves the reference's result in its result array. -/
theorem arrAt_ref (hO : Ok m) (c : Dev nD) : (dats m hO (sched m s hp) 0 c).arrAt 3 (cfgM m hO).N = refOf m c := by
  have hrow : ∀ (t : Fin (cfgM m hO).N) (y : S512x1024.Idx), (ix2 (rowOf (fx t) (y 0)) (y 1) : S97792x1024.Idx) = (((cfgM m hO).win 3).rect t).emb y := by
    intro t y
    refine funext fun a => Fin.ext ?_
    refine Eq.trans ?_ (emb3 m hO t y a).symm
    rw [tr5_eq t]
    match a with
    | ⟨0, _⟩ => show 512 * t.val + (y 0).val = t.val * 512 + (y 0).val; omega
    | ⟨1, _⟩ => show (y 1).val = 0 * 1024 + (y 1).val; omega
  have hval : ∀ (t : Fin (cfgM m hO).N) (y : S512x1024.Idx), outAt m hO (sched m s hp) c t y = refOf m c ((((cfgM m hO).win 3).rect t).emb y) := fun t y =>
    ((congrArg (outAt m hO (sched m s hp) c t) (ValueIdx.eq_ix2 y)).trans (outAt_ap m s hp hO c t (y 0) (y 1))).trans (congrArg (refOf m c) (hrow t y))
  have hcov : ∀ i : S97792x1024.Idx, ∃ (t : Fin (cfgM m hO).N) (y : S512x1024.Idx), (((cfgM m hO).win 3).rect t).emb y = i := by
    intro i
    have hi : (i 0).val < 97792 := (i 0).isLt
    let t : Fin grid0.N := ⟨(i 0).val / 512, by show (i 0).val / 512 < 191; omega⟩
    refine ⟨t, ix2 (⟨(i 0).val % 512, by omega⟩ : Fin 512) (i 1), ?_⟩
    refine (hrow t _).symm.trans (funext fun a => Fin.ext ?_)
    match a with
    | ⟨0, _⟩ => show 512 * ((i 0).val / 512) + (i 0).val % 512 = (i 0).val; omega
    | ⟨1, _⟩ => rfl
  refine Pipeline.Dat.arrAt_eq_of_emb (dats m hO (sched m s hp) 0 c) 3 (refOf m c) (fun t _ y => ?_) fun i => ?_
  · refine Eq.trans (b := (dats m hO (sched m s hp) 0 c).after 3 t y) rfl ?_
    exact (congrFun (after3 m hO (sched m s hp) c t) y).trans (hval t y)
  · obtain ⟨t, y, hx⟩ := hcov i
    refine ⟨t, flush3 m hO t, ?_⟩
    have hmem := (((cfgM m hO).win 3).blk t).view.emb_mem_set y
    have hx' : (((cfgM m hO).win 3).blk t).view.emb y = i := hx
    rwa [hx'] at hmem

end Cert.KernelIdeal.Moe

end
-- ==== Proof.RetKer.lean ====
/- One block of the retention kernel's new state, read at an index. -/
module

public import proofs.«01_k».proof.Proof.Gen.Kernel2Ideal.Value
public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

@[expose] public section

set_option maxRecDepth 16384
set_option maxHeartbeats 4000000

noncomputable section

namespace Cert.Kernel2Ideal.Ret

open Idealize.ShloMosaic Idealize.ShloMosaic.TcCoe Idealize.ShloMosaic.Pipeline
open Cert.Kernel2Ideal Cert.Kernel2Ideal.Gen
open scoped BigOperators

/-- A block of the new state: the old state decayed, plus the products of the decayed keys and the values over the rows. -/
def stBlk (kb : FVec Ideal S128x512 .bf16) (vb : FVec Ideal S128x1024 .bf16) (kd : FVec Ideal S128x512 .f32) (g : FVec Ideal S4x128x128 .f32)
    (s : FVec Ideal S1x4x128x128 .f32) (p : Fin 4) (l c : Fin 128) : EReal :=
  s (ix4 0 p l c) * g (ix3 p l c)
    + ∑ j : Fin 128, kb (ix2 j ⟨p.val * 128 + l.val, by omega⟩) * kd (ix2 j ⟨p.val * 128 + l.val, by omega⟩)
        * vb (ix2 j ⟨(p.val * 2 + l.val / 64) * 128 + c.val, by omega⟩)

variable (x1 : FVec Ideal S128x512 .bf16) (x2 : FVec Ideal S128x1024 .bf16) (x6 : FVec Ideal S128x512 .f32) (x7 : FVec Ideal S4x128x128 .f32)
    (x8 : FVec Ideal S1x4x128x128 .f32)

theorem half0 : ∀ l : Fin 128, IntOp.andi (IntOp.cmpi CmpIPredicate.sge (BitVec.ofNat 32 l.val) 0#32)
    (IntOp.cmpi CmpIPredicate.slt (BitVec.ofNat 32 l.val) 64#32) = if l.val < 64 then 1#1 else 0#1 := by decide +kernel

theorem half1 : ∀ l : Fin 128, IntOp.andi (IntOp.cmpi CmpIPredicate.sge (BitVec.ofNat 32 l.val) 64#32)
    (IntOp.cmpi CmpIPredicate.slt (BitVec.ofNat 32 l.val) 128#32) = if l.val < 64 then 0#1 else 1#1 := by decide +kernel

theorem sel_one {α : Type} (a b : α) : Scalar.select (1#1) a b = a := rfl
theorem sel_zero {α : Type} (a b : α) : Scalar.select (0#1) a b = b := rfl

theorem pc0 (l c : Fin 128) : k0_pay24 (F := Ideal) (k0_pay21 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay15 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay11 (View.ld (Val := Elt Ideal) (S := S4x128x128) (e' := .f32) (k0_pay4 (F := Ideal) x8) (Rect.unit (s := S4x128x128) ![0, 0, 0] ![1, 128, 128] inb_S4x128x128_S1x128x128_0_0_0)) (View.ld (Val := Elt Ideal) (S := S4x128x128) (e' := .f32) x7 (Rect.unit (s := S4x128x128) ![0, 0, 0] ![1, 128, 128] inb_S4x128x128_S1x128x128_0_0_0))) k0_pay12 (View.ld (Val := Elt Ideal) (S := S128x1024) (e' := .bf16) x2 (Rect.unit (s := S128x1024) ![0, 0] ![128, 128] inb_S128x1024_S128x128_0_0))) (k0_pay17 (iota Kind.tc S128x128 32 [1] iota_S128x128_d1_w32)) (k0_pay18 (iota Kind.tc S128x128 32 [1] iota_S128x128_d1_w32)) (View.ld (Val := Elt Ideal) (S := S128x1024) (e' := .bf16) x2 (Rect.unit (s := S128x1024) ![0, 128] ![128, 128] inb_S128x1024_S128x128_0_128))) (ix3 0 l c) = stBlk x1 x2 x6 x7 x8 0 l c := by
  unfold_payloads
  pointwise [stBlk]
  rw [half0 l, half1 l]
  by_cases h : l.val < 64
  · simp only [if_pos h, sel_one, sel_zero, Finset.sum_const_zero, add_zero]
    refine congrArg (_ + ·) (Finset.sum_congr rfl fun x _ => congrArg (_ * ·) (congrArg x2 (congrArg (ix2 x) (Fin.ext ?_))))
    dsimp only; omega
  · simp only [if_neg h, sel_one, sel_zero, Finset.sum_const_zero, add_zero]
    refine congrArg (_ + ·) (Finset.sum_congr rfl fun x _ => congrArg (_ * ·) (congrArg x2 (congrArg (ix2 x) (Fin.ext ?_))))
    dsimp only; omega

theorem pc1 (l c : Fin 128) : k0_pay43 (F := Ideal) (k0_pay40 (iota Kind.tc S128x128 32 [1] iota_S128x128_d1_w32) (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay35 (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay31 (View.ld (Val := Elt Ideal) (S := S4x128x128) (e' := .f32) (k0_pay4 (F := Ideal) x8) (Rect.unit (s := S4x128x128) ![1, 0, 0] ![1, 128, 128] inb_S4x128x128_S1x128x128_1_0_0)) (View.ld (Val := Elt Ideal) (S := S4x128x128) (e' := .f32) x7 (Rect.unit (s := S4x128x128) ![1, 0, 0] ![1, 128, 128] inb_S4x128x128_S1x128x128_1_0_0))) (k0_pay32 (iota Kind.tc S128x128 32 [1] iota_S128x128_d1_w32)) (View.ld (Val := Elt Ideal) (S := S128x1024) (e' := .bf16) x2 (Rect.unit (s := S128x1024) ![0, 256] ![128, 128] inb_S128x1024_S128x128_0_256))) (k0_pay37 (iota Kind.tc S128x128 32 [1] iota_S128x128_d1_w32)) (View.ld (Val := Elt Ideal) (S := S128x1024) (e' := .bf16) x2 (Rect.unit (s := S128x1024) ![0, 384] ![128, 128] inb_S128x1024_S128x128_0_384))) (ix3 0 l c) = stBlk x1 x2 x6 x7 x8 1 l c := by
  unfold_payloads
  pointwise [stBlk]
  rw [half0 l, half1 l]
  by_cases h : l.val < 64
  · simp only [if_pos h, sel_one, sel_zero, Finset.sum_const_zero, add_zero]
    refine congrArg (_ + ·) (Finset.sum_congr rfl fun x _ => congrArg (_ * ·) (congrArg x2 (congrArg (ix2 x) (Fin.ext ?_))))
    dsimp only; omega
  · simp only [if_neg h, sel_one, sel_zero, Finset.sum_const_zero, add_zero]
    refine congrArg (_ + ·) (Finset.sum_congr rfl fun x _ => congrArg (_ * ·) (congrArg x2 (congrArg (ix2 x) (Fin.ext ?_))))
    dsimp only; omega

theorem pc2 (l c : Fin 128) : k0_pay63 (F := Ideal) (k0_pay60 (iota Kind.tc S128x128 32 [1] iota_S128x128_d1_w32) (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay56 (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay50 (View.ld (Val := Elt Ideal) (S := S4x128x128) (e' := .f32) (k0_pay4 (F := Ideal) x8) (Rect.unit (s := S4x128x128) ![2, 0, 0] ![1, 128, 128] inb_S4x128x128_S1x128x128_2_0_0)) (View.ld (Val := Elt Ideal) (S := S4x128x128) (e' := .f32) x7 (Rect.unit (s := S4x128x128) ![2, 0, 0] ![1, 128, 128] inb_S4x128x128_S1x128x128_2_0_0))) (k0_pay51 (iota Kind.tc S128x128 32 [1] iota_S128x128_d1_w32)) k0_pay52 k0_pay53 (View.ld (Val := Elt Ideal) (S := S128x1024) (e' := .bf16) x2 (Rect.unit (s := S128x1024) ![0, 512] ![128, 128] inb_S128x1024_S128x128_0_512))) (View.ld (Val := Elt Ideal) (S := S128x1024) (e' := .bf16) x2 (Rect.unit (s := S128x1024) ![0, 640] ![128, 128] inb_S128x1024_S128x128_0_640))) (ix3 0 l c) = stBlk x1 x2 x6 x7 x8 2 l c := by
  unfold_payloads
  pointwise [stBlk]
  rw [half0 l, half1 l]
  by_cases h : l.val < 64
  · simp only [if_pos h, sel_one, sel_zero, Finset.sum_const_zero, add_zero]
    refine congrArg (_ + ·) (Finset.sum_congr rfl fun x _ => congrArg (_ * ·) (congrArg x2 (congrArg (ix2 x) (Fin.ext ?_))))
    dsimp only; omega
  · simp only [if_neg h, sel_one, sel_zero, Finset.sum_const_zero, add_zero]
    refine congrArg (_ + ·) (Finset.sum_congr rfl fun x _ => congrArg (_ * ·) (congrArg x2 (congrArg (ix2 x) (Fin.ext ?_))))
    dsimp only; omega

theorem pc3 (l c : Fin 128) : k0_pay2 (F := Ideal) (k0_pay79 (iota Kind.tc S128x128 32 [1] iota_S128x128_d1_w32) (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay74 (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay70 (View.ld (Val := Elt Ideal) (S := S4x128x128) (e' := .f32) (k0_pay4 (F := Ideal) x8) (Rect.unit (s := S4x128x128) ![3, 0, 0] ![1, 128, 128] inb_S4x128x128_S1x128x128_3_0_0)) (View.ld (Val := Elt Ideal) (S := S4x128x128) (e' := .f32) x7 (Rect.unit (s := S4x128x128) ![3, 0, 0] ![1, 128, 128] inb_S4x128x128_S1x128x128_3_0_0))) (k0_pay71 (iota Kind.tc S128x128 32 [1] iota_S128x128_d1_w32)) (FloatOps.ofBits FTy.f32 1065353216#32) (View.ld (Val := Elt Ideal) (S := S128x1024) (e' := .bf16) x2 (Rect.unit (s := S128x1024) ![0, 768] ![128, 128] inb_S128x1024_S128x128_0_768))) (View.ld (Val := Elt Ideal) (S := S128x1024) (e' := .bf16) x2 (Rect.unit (s := S128x1024) ![0, 896] ![128, 128] inb_S128x1024_S128x128_0_896))) (ix3 0 l c) = stBlk x1 x2 x6 x7 x8 3 l c := by
  unfold_payloads
  pointwise [stBlk]
  rw [half0 l, half1 l]
  by_cases h : l.val < 64
  · simp only [if_pos h, sel_one, sel_zero, Finset.sum_const_zero, add_zero]
    refine congrArg (_ + ·) (Finset.sum_congr rfl fun x _ => congrArg (_ * ·) (congrArg x2 (congrArg (ix2 x) (Fin.ext ?_))))
    dsimp only; omega
  · simp only [if_neg h, sel_one, sel_zero, Finset.sum_const_zero, add_zero]
    refine congrArg (_ + ·) (Finset.sum_congr rfl fun x _ => congrArg (_ * ·) (congrArg x2 (congrArg (ix2 x) (Fin.ext ?_))))
    dsimp only; omega

theorem piece0 (x : S1x128x128.Idx) : k0_pay24 (F := Ideal) (k0_pay21 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay15 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay11 (View.ld (Val := Elt Ideal) (S := S4x128x128) (e' := .f32) (k0_pay4 (F := Ideal) x8) (Rect.unit (s := S4x128x128) ![0, 0, 0] ![1, 128, 128] inb_S4x128x128_S1x128x128_0_0_0)) (View.ld (Val := Elt Ideal) (S := S4x128x128) (e' := .f32) x7 (Rect.unit (s := S4x128x128) ![0, 0, 0] ![1, 128, 128] inb_S4x128x128_S1x128x128_0_0_0))) k0_pay12 (View.ld (Val := Elt Ideal) (S := S128x1024) (e' := .bf16) x2 (Rect.unit (s := S128x1024) ![0, 0] ![128, 128] inb_S128x1024_S128x128_0_0))) (k0_pay17 (iota Kind.tc S128x128 32 [1] iota_S128x128_d1_w32)) (k0_pay18 (iota Kind.tc S128x128 32 [1] iota_S128x128_d1_w32)) (View.ld (Val := Elt Ideal) (S := S128x1024) (e' := .bf16) x2 (Rect.unit (s := S128x1024) ![0, 128] ![128, 128] inb_S128x1024_S128x128_0_128))) x
    = stBlk x1 x2 x6 x7 x8 ((Rect.unit (s := S4x128x128) ![0, 0, 0] ![1, 128, 128] inb_S4x128x128_S1x128x128_0_0_0).emb x 0)
        ((Rect.unit (s := S4x128x128) ![0, 0, 0] ![1, 128, 128] inb_S4x128x128_S1x128x128_0_0_0).emb x 1)
        ((Rect.unit (s := S4x128x128) ![0, 0, 0] ![1, 128, 128] inb_S4x128x128_S1x128x128_0_0_0).emb x 2) := by
  obtain ⟨a, l, c, rfl⟩ : ∃ (a : Fin 1) (l c : Fin 128), x = ix3 a l c := ⟨x 0, x 1, x 2, by funext i; match i with | ⟨0, _⟩ => rfl | ⟨1, _⟩ => rfl | ⟨2, _⟩ => rfl⟩
  obtain rfl : a = 0 := Subsingleton.elim _ _
  refine (pc0 x1 x2 x6 x7 x8 l c).trans ?_
  refine congr (congr (congrArg (stBlk x1 x2 x6 x7 x8) (Fin.ext ?_)) (Fin.ext ?_)) (Fin.ext ?_)
  · rfl
  · show l.val = 0 + 1 * l.val; omega
  · show c.val = 0 + 1 * c.val; omega

theorem piece1 (x : S1x128x128.Idx) : k0_pay43 (F := Ideal) (k0_pay40 (iota Kind.tc S128x128 32 [1] iota_S128x128_d1_w32) (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay35 (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay31 (View.ld (Val := Elt Ideal) (S := S4x128x128) (e' := .f32) (k0_pay4 (F := Ideal) x8) (Rect.unit (s := S4x128x128) ![1, 0, 0] ![1, 128, 128] inb_S4x128x128_S1x128x128_1_0_0)) (View.ld (Val := Elt Ideal) (S := S4x128x128) (e' := .f32) x7 (Rect.unit (s := S4x128x128) ![1, 0, 0] ![1, 128, 128] inb_S4x128x128_S1x128x128_1_0_0))) (k0_pay32 (iota Kind.tc S128x128 32 [1] iota_S128x128_d1_w32)) (View.ld (Val := Elt Ideal) (S := S128x1024) (e' := .bf16) x2 (Rect.unit (s := S128x1024) ![0, 256] ![128, 128] inb_S128x1024_S128x128_0_256))) (k0_pay37 (iota Kind.tc S128x128 32 [1] iota_S128x128_d1_w32)) (View.ld (Val := Elt Ideal) (S := S128x1024) (e' := .bf16) x2 (Rect.unit (s := S128x1024) ![0, 384] ![128, 128] inb_S128x1024_S128x128_0_384))) x
    = stBlk x1 x2 x6 x7 x8 ((Rect.unit (s := S4x128x128) ![1, 0, 0] ![1, 128, 128] inb_S4x128x128_S1x128x128_1_0_0).emb x 0)
        ((Rect.unit (s := S4x128x128) ![1, 0, 0] ![1, 128, 128] inb_S4x128x128_S1x128x128_1_0_0).emb x 1)
        ((Rect.unit (s := S4x128x128) ![1, 0, 0] ![1, 128, 128] inb_S4x128x128_S1x128x128_1_0_0).emb x 2) := by
  obtain ⟨a, l, c, rfl⟩ : ∃ (a : Fin 1) (l c : Fin 128), x = ix3 a l c := ⟨x 0, x 1, x 2, by funext i; match i with | ⟨0, _⟩ => rfl | ⟨1, _⟩ => rfl | ⟨2, _⟩ => rfl⟩
  obtain rfl : a = 0 := Subsingleton.elim _ _
  refine (pc1 x1 x2 x6 x7 x8 l c).trans ?_
  refine congr (congr (congrArg (stBlk x1 x2 x6 x7 x8) (Fin.ext ?_)) (Fin.ext ?_)) (Fin.ext ?_)
  · rfl
  · show l.val = 0 + 1 * l.val; omega
  · show c.val = 0 + 1 * c.val; omega

theorem piece2 (x : S1x128x128.Idx) : k0_pay63 (F := Ideal) (k0_pay60 (iota Kind.tc S128x128 32 [1] iota_S128x128_d1_w32) (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay56 (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay50 (View.ld (Val := Elt Ideal) (S := S4x128x128) (e' := .f32) (k0_pay4 (F := Ideal) x8) (Rect.unit (s := S4x128x128) ![2, 0, 0] ![1, 128, 128] inb_S4x128x128_S1x128x128_2_0_0)) (View.ld (Val := Elt Ideal) (S := S4x128x128) (e' := .f32) x7 (Rect.unit (s := S4x128x128) ![2, 0, 0] ![1, 128, 128] inb_S4x128x128_S1x128x128_2_0_0))) (k0_pay51 (iota Kind.tc S128x128 32 [1] iota_S128x128_d1_w32)) k0_pay52 k0_pay53 (View.ld (Val := Elt Ideal) (S := S128x1024) (e' := .bf16) x2 (Rect.unit (s := S128x1024) ![0, 512] ![128, 128] inb_S128x1024_S128x128_0_512))) (View.ld (Val := Elt Ideal) (S := S128x1024) (e' := .bf16) x2 (Rect.unit (s := S128x1024) ![0, 640] ![128, 128] inb_S128x1024_S128x128_0_640))) x
    = stBlk x1 x2 x6 x7 x8 ((Rect.unit (s := S4x128x128) ![2, 0, 0] ![1, 128, 128] inb_S4x128x128_S1x128x128_2_0_0).emb x 0)
        ((Rect.unit (s := S4x128x128) ![2, 0, 0] ![1, 128, 128] inb_S4x128x128_S1x128x128_2_0_0).emb x 1)
        ((Rect.unit (s := S4x128x128) ![2, 0, 0] ![1, 128, 128] inb_S4x128x128_S1x128x128_2_0_0).emb x 2) := by
  obtain ⟨a, l, c, rfl⟩ : ∃ (a : Fin 1) (l c : Fin 128), x = ix3 a l c := ⟨x 0, x 1, x 2, by funext i; match i with | ⟨0, _⟩ => rfl | ⟨1, _⟩ => rfl | ⟨2, _⟩ => rfl⟩
  obtain rfl : a = 0 := Subsingleton.elim _ _
  refine (pc2 x1 x2 x6 x7 x8 l c).trans ?_
  refine congr (congr (congrArg (stBlk x1 x2 x6 x7 x8) (Fin.ext ?_)) (Fin.ext ?_)) (Fin.ext ?_)
  · rfl
  · show l.val = 0 + 1 * l.val; omega
  · show c.val = 0 + 1 * c.val; omega

theorem piece3 (x : S1x128x128.Idx) : k0_pay2 (F := Ideal) (k0_pay79 (iota Kind.tc S128x128 32 [1] iota_S128x128_d1_w32) (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay74 (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay70 (View.ld (Val := Elt Ideal) (S := S4x128x128) (e' := .f32) (k0_pay4 (F := Ideal) x8) (Rect.unit (s := S4x128x128) ![3, 0, 0] ![1, 128, 128] inb_S4x128x128_S1x128x128_3_0_0)) (View.ld (Val := Elt Ideal) (S := S4x128x128) (e' := .f32) x7 (Rect.unit (s := S4x128x128) ![3, 0, 0] ![1, 128, 128] inb_S4x128x128_S1x128x128_3_0_0))) (k0_pay71 (iota Kind.tc S128x128 32 [1] iota_S128x128_d1_w32)) (FloatOps.ofBits FTy.f32 1065353216#32) (View.ld (Val := Elt Ideal) (S := S128x1024) (e' := .bf16) x2 (Rect.unit (s := S128x1024) ![0, 768] ![128, 128] inb_S128x1024_S128x128_0_768))) (View.ld (Val := Elt Ideal) (S := S128x1024) (e' := .bf16) x2 (Rect.unit (s := S128x1024) ![0, 896] ![128, 128] inb_S128x1024_S128x128_0_896))) x
    = stBlk x1 x2 x6 x7 x8 ((Rect.unit (s := S4x128x128) ![3, 0, 0] ![1, 128, 128] inb_S4x128x128_S1x128x128_3_0_0).emb x 0)
        ((Rect.unit (s := S4x128x128) ![3, 0, 0] ![1, 128, 128] inb_S4x128x128_S1x128x128_3_0_0).emb x 1)
        ((Rect.unit (s := S4x128x128) ![3, 0, 0] ![1, 128, 128] inb_S4x128x128_S1x128x128_3_0_0).emb x 2) := by
  obtain ⟨a, l, c, rfl⟩ : ∃ (a : Fin 1) (l c : Fin 128), x = ix3 a l c := ⟨x 0, x 1, x 2, by funext i; match i with | ⟨0, _⟩ => rfl | ⟨1, _⟩ => rfl | ⟨2, _⟩ => rfl⟩
  obtain rfl : a = 0 := Subsingleton.elim _ _
  refine (pc3 x1 x2 x6 x7 x8 l c).trans ?_
  refine congr (congr (congrArg (stBlk x1 x2 x6 x7 x8) (Fin.ext ?_)) (Fin.ext ?_)) (Fin.ext ?_)
  · rfl
  · show l.val = 0 + 1 * l.val; omega
  · show c.val = 0 + 1 * c.val; omega

theorem pay3_ap (f : FVec Ideal S4x128x128 .f32) (p : Fin 4) (l c : Fin 128) : k0_pay3 (F := Ideal) f (ix4 0 p l c) = f (ix3 p l c) := by
  pointwise [k0_pay3]

theorem out_eq (m : (ℓ : Loc nD τ sig) → Buf (Elt Ideal) ℓ) (c : Dev nD) (t : Fin cfg0.N) (p : Fin 4) (l k : Fin 128) :
    ((outsAt0 m c t).2 : FVec Ideal S1x4x128x128 .f32) (ix4 0 p l k)
      = stBlk (iblk m c 1 t) (iblk m c 2 t) (iblk m c 6 t) (iblk m c 7 t) (iblk m c 8 t) p l k := by
  unfold outsAt0
  dsimp only
  frame_open
  simp (disch := decide) only [↓ View.readCov_skip, ↓ View.readCov_cons_toLoadRect, ↓ View.readCov_fill]
  frame_out
  generalize iblk m c 1 t = x1
  generalize iblk m c 2 t = x2
  generalize iblk m c 6 t = x6
  generalize iblk m c 7 t = x7
  generalize iblk m c 8 t = x8
  rw [View.readCov_eq_canon', pay3_ap]
  have hG : ∀ y : S4x128x128.Idx, View.canon (Val := Elt Ideal) (e := .f32) [⟨Rect.unit (s := S4x128x128) ![3, 0, 0] ![1, 128, 128] inb_S4x128x128_S1x128x128_3_0_0, k0_pay2 (F := Ideal) (k0_pay79 (iota Kind.tc S128x128 32 [1] iota_S128x128_d1_w32) (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay74 (k0_pay67 (View.ld (Val := Elt Ideal) (S := S128x512) (e' := .bf16) x1 (Rect.unit (s := S128x512) ![0, 384] ![128, 128] inb_S128x512_S128x128_0_384)) (View.ld (Val := Elt Ideal) (S := S128x512) (e' := .f32) x6 (Rect.unit (s := S128x512) ![0, 384] ![128, 128] inb_S128x512_S128x128_0_384))) (k0_pay70 (View.ld (Val := Elt Ideal) (S := S4x128x128) (e' := .f32) (k0_pay4 (F := Ideal) x8) (Rect.unit (s := S4x128x128) ![3, 0, 0] ![1, 128, 128] inb_S4x128x128_S1x128x128_3_0_0)) (View.ld (Val := Elt Ideal) (S := S4x128x128) (e' := .f32) x7 (Rect.unit (s := S4x128x128) ![3, 0, 0] ![1, 128, 128] inb_S4x128x128_S1x128x128_3_0_0))) (k0_pay71 (iota Kind.tc S128x128 32 [1] iota_S128x128_d1_w32)) (FloatOps.ofBits FTy.f32 1065353216#32) (View.ld (Val := Elt Ideal) (S := S128x1024) (e' := .bf16) x2 (Rect.unit (s := S128x1024) ![0, 768] ![128, 128] inb_S128x1024_S128x128_0_768))) (View.ld (Val := Elt Ideal) (S := S128x1024) (e' := .bf16) x2 (Rect.unit (s := S128x1024) ![0, 896] ![128, 128] inb_S128x1024_S128x128_0_896)))⟩,
      ⟨Rect.unit (s := S4x128x128) ![2, 0, 0] ![1, 128, 128] inb_S4x128x128_S1x128x128_2_0_0, k0_pay63 (F := Ideal) (k0_pay60 (iota Kind.tc S128x128 32 [1] iota_S128x128_d1_w32) (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay56 (k0_pay47 (View.ld (Val := Elt Ideal) (S := S128x512) (e' := .bf16) x1 (Rect.unit (s := S128x512) ![0, 256] ![128, 128] inb_S128x512_S128x128_0_256)) (View.ld (Val := Elt Ideal) (S := S128x512) (e' := .f32) x6 (Rect.unit (s := S128x512) ![0, 256] ![128, 128] inb_S128x512_S128x128_0_256))) (k0_pay50 (View.ld (Val := Elt Ideal) (S := S4x128x128) (e' := .f32) (k0_pay4 (F := Ideal) x8) (Rect.unit (s := S4x128x128) ![2, 0, 0] ![1, 128, 128] inb_S4x128x128_S1x128x128_2_0_0)) (View.ld (Val := Elt Ideal) (S := S4x128x128) (e' := .f32) x7 (Rect.unit (s := S4x128x128) ![2, 0, 0] ![1, 128, 128] inb_S4x128x128_S1x128x128_2_0_0))) (k0_pay51 (iota Kind.tc S128x128 32 [1] iota_S128x128_d1_w32)) k0_pay52 k0_pay53 (View.ld (Val := Elt Ideal) (S := S128x1024) (e' := .bf16) x2 (Rect.unit (s := S128x1024) ![0, 512] ![128, 128] inb_S128x1024_S128x128_0_512))) (View.ld (Val := Elt Ideal) (S := S128x1024) (e' := .bf16) x2 (Rect.unit (s := S128x1024) ![0, 640] ![128, 128] inb_S128x1024_S128x128_0_640)))⟩,
      ⟨Rect.unit (s := S4x128x128) ![1, 0, 0] ![1, 128, 128] inb_S4x128x128_S1x128x128_1_0_0, k0_pay43 (F := Ideal) (k0_pay40 (iota Kind.tc S128x128 32 [1] iota_S128x128_d1_w32) (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay35 (k0_pay28 (View.ld (Val := Elt Ideal) (S := S128x512) (e' := .bf16) x1 (Rect.unit (s := S128x512) ![0, 128] ![128, 128] inb_S128x512_S128x128_0_128)) (View.ld (Val := Elt Ideal) (S := S128x512) (e' := .f32) x6 (Rect.unit (s := S128x512) ![0, 128] ![128, 128] inb_S128x512_S128x128_0_128))) (k0_pay31 (View.ld (Val := Elt Ideal) (S := S4x128x128) (e' := .f32) (k0_pay4 (F := Ideal) x8) (Rect.unit (s := S4x128x128) ![1, 0, 0] ![1, 128, 128] inb_S4x128x128_S1x128x128_1_0_0)) (View.ld (Val := Elt Ideal) (S := S4x128x128) (e' := .f32) x7 (Rect.unit (s := S4x128x128) ![1, 0, 0] ![1, 128, 128] inb_S4x128x128_S1x128x128_1_0_0))) (k0_pay32 (iota Kind.tc S128x128 32 [1] iota_S128x128_d1_w32)) (View.ld (Val := Elt Ideal) (S := S128x1024) (e' := .bf16) x2 (Rect.unit (s := S128x1024) ![0, 256] ![128, 128] inb_S128x1024_S128x128_0_256))) (k0_pay37 (iota Kind.tc S128x128 32 [1] iota_S128x128_d1_w32)) (View.ld (Val := Elt Ideal) (S := S128x1024) (e' := .bf16) x2 (Rect.unit (s := S128x1024) ![0, 384] ![128, 128] inb_S128x1024_S128x128_0_384)))⟩,
      ⟨Rect.unit (s := S4x128x128) ![0, 0, 0] ![1, 128, 128] inb_S4x128x128_S1x128x128_0_0_0, k0_pay24 (F := Ideal) (k0_pay21 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay15 (k0_pay8 (View.ld (Val := Elt Ideal) (S := S128x512) (e' := .bf16) x1 (Rect.unit (s := S128x512) ![0, 0] ![128, 128] inb_S128x512_S128x128_0_0)) (View.ld (Val := Elt Ideal) (S := S128x512) (e' := .f32) x6 (Rect.unit (s := S128x512) ![0, 0] ![128, 128] inb_S128x512_S128x128_0_0))) (k0_pay11 (View.ld (Val := Elt Ideal) (S := S4x128x128) (e' := .f32) (k0_pay4 (F := Ideal) x8) (Rect.unit (s := S4x128x128) ![0, 0, 0] ![1, 128, 128] inb_S4x128x128_S1x128x128_0_0_0)) (View.ld (Val := Elt Ideal) (S := S4x128x128) (e' := .f32) x7 (Rect.unit (s := S4x128x128) ![0, 0, 0] ![1, 128, 128] inb_S4x128x128_S1x128x128_0_0_0))) k0_pay12 (View.ld (Val := Elt Ideal) (S := S128x1024) (e' := .bf16) x2 (Rect.unit (s := S128x1024) ![0, 0] ![128, 128] inb_S128x1024_S128x128_0_0))) (k0_pay17 (iota Kind.tc S128x128 32 [1] iota_S128x128_d1_w32)) (k0_pay18 (iota Kind.tc S128x128 32 [1] iota_S128x128_d1_w32)) (View.ld (Val := Elt Ideal) (S := S128x1024) (e' := .bf16) x2 (Rect.unit (s := S128x1024) ![0, 128] ![128, 128] inb_S128x1024_S128x128_0_128)))⟩,
      ⟨Rect.unit (s := S4x128x128) ![0, 0, 0] ![4, 128, 128] inb_S4x128x128_S4x128x128_0_0_0, k0_pay4 (F := Ideal) x8⟩] y = stBlk x1 x2 x6 x7 x8 (y 0) (y 1) (y 2) := fun y => by
    refine View.canon_append_of_piecesOf (Val := Elt Ideal) (e := .f32) (s := S4x128x128) (fun y => stBlk x1 x2 x6 x7 x8 (y 0) (y 1) (y 2)) [_] [_, _, _, _] ⟨fun x => ?_, fun x => ?_, fun x => ?_, fun x => ?_, trivial⟩ y (View.cover_of_tiled _ ![1, 128, 128] (by rfl) y)
    · exact (piece3 x1 x2 x6 x7 x8 x)
    · exact (piece2 x1 x2 x6 x7 x8 x)
    · exact (piece1 x1 x2 x6 x7 x8 x)
    · exact (piece0 x1 x2 x6 x7 x8 x)
  refine (hG _).trans ?_
  refine congr (congr (congrArg (stBlk x1 x2 x6 x7 x8) (Fin.ext ?_)) (Fin.ext ?_)) (Fin.ext ?_)
  · show 0 + 1 * p.val = p.val; omega
  · show 0 + 1 * l.val = l.val; omega
  · show 0 + 1 * k.val = k.val; omega

end Cert.Kernel2Ideal.Ret

end
-- ==== Proof.RetSpec.lean ====
/- The quantities of the retention that the kernel and the reference share, read at an index. -/
module

public import Idealize.ShloMosaic.Lib.Pointwise

@[expose] public section

noncomputable section

namespace Cert.Ret

open Idealize.ShloMosaic

/-- The logarithm of head `h`'s decay. -/
def lg (h : ℕ) : EReal :=
  Ideal.log (1 - Ideal.pow (Ideal.ofBits FTy.f32 1073741824#32) (Ideal.ofBits FTy.f32 3231711232#32 - FloatOps.sitofp (F := Ideal) FTy.f32 (BitVec.ofNat 32 h)))

/-- Row `j`'s decay towards the end of the rows. -/
def kdec (h j : ℕ) : EReal :=
  Ideal.exp ((Ideal.ofBits FTy.f32 1088421888#32 - FloatOps.sitofp (F := Ideal) FTy.f32 (BitVec.ofNat 32 j)) * lg h)

/-- The old state's decay over all rows. -/
def sdec (h : ℕ) : EReal := Ideal.exp (Ideal.ofBits FTy.f32 1090519040#32 * lg h)

/-- The scale of the keys. -/
def ks : EReal := Ideal.ofBits FTy.f32 1040187392#32

end Cert.Ret

end
-- ==== Proof.RetHost.lean ====
/- What the host operations before the retention call leave in the arrays it reads, read at an index. -/
module

public import proofs.«01_k».proof.Proof.Gen.Kernel2Ideal.Value
public import proofs.«01_k».proof.Proof.RetSpec
public import Idealize.ShloMosaic.Lib.StableHlo.RunRead
public import Idealize.ShloMosaic.Lib.Pipeline.ValueKit.Geometry

@[expose] public section

set_option maxRecDepth 16384
set_option maxHeartbeats 4000000

noncomputable section

namespace Cert.Kernel2Ideal.Ret

open Idealize.ShloMosaic Idealize.ShloMosaic.TcCoe Idealize.ShloMosaic.Pipeline Idealize.ShloMosaic.StableHlo
open Cert.Ret Cert.Kernel2Ideal Cert.Kernel2Ideal.Gen
open scoped BigOperators

/-- The logarithms of the heads' decays. -/
def lgT : FVec Ideal S8 .f32 :=
  Host.log (subf (broadcastInDim S8 ![] bcast_S_S8 (constant S_ .f32 1065353216#32)) (Host.powf (broadcastInDim S8 ![] bcast_S_S8 (constant S_ .f32 1073741824#32))
    (subf (broadcastInDim S8 ![] bcast_S_S8 (constant S_ .f32 3231711232#32)) (sitofp .f32 (iotaInDim S8 32 0)))))

/-- The padded key rows. -/
def kT (k : FVec Ideal S32x8x8x64 .f32) : FVec Ideal S4096x512 .bf16 :=
  shapeCast S4096x512 (pad S32x128x512 ![0, 0, 0] ![0, 120, 0] ![0, 0, 0] (shapeCast S32x8x512 (truncf .bf16 (shapeCast S256x512 (mulf k (broadcastInDim S32x8x8x64 ![] bcast_S_S32x8x8x64 (constant S_ .f32 1040187392#32))) shapeCasts_S32x8x8x64_S256x512) bitsLt_bf16_f32) shapeCasts_S256x512_S32x8x512)
    (sitofp .bf16 (constantI S_ 32 0#32)) pads_S32x8x512_S32x128x512_000_01200_000 h_S_) shapeCasts_S32x128x512_S4096x512

/-- The padded value rows. -/
def vT (v : FVec Ideal S32x8x8x128 .f32) : FVec Ideal S4096x1024 .bf16 :=
  shapeCast S4096x1024 (pad S32x128x1024 ![0, 0, 0] ![0, 120, 0] ![0, 0, 0] (shapeCast S32x8x1024 (truncf .bf16 (shapeCast S256x1024 v shapeCasts_S32x8x8x128_S256x1024) bitsLt_bf16_f32) shapeCasts_S256x1024_S32x8x1024)
    (sitofp .bf16 (constantI S_ 32 0#32)) pads_S32x8x1024_S32x128x1024_000_01200_000 h_S_) shapeCasts_S32x128x1024_S4096x1024

/-- The keys' decays towards the end of the rows. -/
def kdT : FVec Ideal S128x512 .f32 :=
  shapeCast S128x512 (broadcastInDim S128x8x64 ![0, 1] bcast_S128x8_S128x8x64_0_1 (Host.exp (mulf (broadcastInDim S128x8 ![0, 1] bcast_S128x1_S128x8_0_1 (broadcastInDim S128x1 ![0] bcast_S128_S128x1_0
    (subf (broadcastInDim S128 ![] bcast_S_S128 (constant S_ .f32 1088421888#32)) (sitofp .f32 (iotaInDim S128 32 0)))))
    (broadcastInDim S128x8 ![0, 1] bcast_S1x8_S128x8_0_1 (broadcastInDim S1x8 ![1] bcast_S8_S1x8_1 lgT))))) shapeCasts_S128x8x64_S128x512

/-- The old state's decays. -/
def gT : FVec Ideal S4x128x128 .f32 :=
  broadcastInDim S4x128x128 ![0, 1, 2] bcast_S4x128x1_S4x128x128_0_1_2 (shapeCast S4x128x1 (shapeCast S512 (broadcastInDim S8x64 ![0] bcast_S8_S8x64_0
    (Host.exp (mulf (broadcastInDim S8 ![] bcast_S_S8 (constant S_ .f32 1090519040#32)) lgT))) shapeCasts_S8x64_S512) shapeCasts_S512_S4x128x1)

/-- The old state, two heads to a block of rows. -/
def sT (s : FVec Ideal S1x32x8x64x128 .f32) : FVec Ideal S32x4x128x128 .f32 :=
  shapeCast S32x4x128x128 (shapeCast S32x8x64x128 s shapeCasts_S1x32x8x64x128_S32x8x64x128) shapeCasts_S32x8x64x128_S32x4x128x128

variable (m : (ℓ : Loc nD τ sig) → Buf (Elt Ideal) ℓ)

theorem V_k (c : Dev nD) : V m c main_v11 = kT (m (c, main_arg1)) := by
  unfold V
  simp only [List.flatten_cons, List.flatten_nil]
  after_reads_simp
  rfl

theorem V_v (c : Dev nD) : V m c main_v16 = vT (m (c, main_arg2)) := by
  unfold V
  simp only [List.flatten_cons, List.flatten_nil]
  after_reads_simp
  rfl

theorem V_kd (c : Dev nD) : V m c main_v73 = kdT := by
  unfold V
  simp only [List.flatten_cons, List.flatten_nil]
  after_reads_simp
  rfl

theorem V_g (c : Dev nD) : V m c main_v80 = gT := by
  unfold V
  simp only [List.flatten_cons, List.flatten_nil]
  after_reads_simp
  rfl

theorem V_s (c : Dev nD) : V m c main_v82 = sT (m (c, main_arg4)) := by
  unfold V
  simp only [List.flatten_cons, List.flatten_nil]
  after_reads_simp
  rfl

theorem sitofp_zero : (FloatOps.sitofp (F := Ideal) FTy.bf16 (0#32 : BitVec 32) : EReal) = 0 := by
  show (((0#32 : BitVec 32).toInt : ℝ) : EReal) = 0
  simp

theorem kT_ap (k : FVec Ideal S32x8x8x64 .f32) (r : Fin 4096) (l : Fin 512) :
    kT k (ix2 r l) = if h : r.val % 128 < 8 then k (ix4 ⟨r.val / 128, by omega⟩ ⟨r.val % 128, h⟩ ⟨l.val / 64, by omega⟩ ⟨l.val % 64, by omega⟩) * ks else 0 := by
  pointwise [kT]
  rw [sitofp_zero]
  by_cases h : r.val % 128 < 8
  · rw [dif_pos ⟨by omega, h⟩, dif_pos h]
    have e1 : (r.val / 128 * 8 + r.val % 128) / 8 = r.val / 128 := by omega
    have e2 : (r.val / 128 * 8 + r.val % 128) % 8 = r.val % 128 := by omega
    simp only [e1, e2, ks]
  · rw [dif_neg (fun hh => h hh.2), dif_neg h]

theorem vT_ap (v : FVec Ideal S32x8x8x128 .f32) (r : Fin 4096) (l : Fin 1024) :
    vT v (ix2 r l) = if h : r.val % 128 < 8 then v (ix4 ⟨r.val / 128, by omega⟩ ⟨r.val % 128, h⟩ ⟨l.val / 128, by omega⟩ ⟨l.val % 128, by omega⟩) else 0 := by
  pointwise [vT]
  rw [sitofp_zero]
  by_cases h : r.val % 128 < 8
  · rw [dif_pos ⟨by omega, h⟩, dif_pos h]
    have e1 : (r.val / 128 * 8 + r.val % 128) / 8 = r.val / 128 := by omega
    have e2 : (r.val / 128 * 8 + r.val % 128) % 8 = r.val % 128 := by omega
    simp only [e1, e2]
  · rw [dif_neg (fun hh => h hh.2), dif_neg h]

theorem kdT_ap (r : Fin 128) (l : Fin 512) : kdT (ix2 r l) = kdec (l.val / 64) r.val := by
  pointwise [kdT, lgT, kdec, lg]

theorem gT_ap (p : Fin 4) (l c : Fin 128) : gT (ix3 p l c) = sdec (p.val * 2 + l.val / 64) := by
  pointwise [gT, lgT, sdec, lg]

theorem sT_ap (s : FVec Ideal S1x32x8x64x128 .f32) (b : Fin 32) (p : Fin 4) (l c : Fin 128) :
    sT s (ix4 b p l c) = s (ix5 0 b ⟨p.val * 2 + l.val / 64, by omega⟩ ⟨l.val % 64, by omega⟩ c) := by
  pointwise [sT]

end Cert.Kernel2Ideal.Ret

end
-- ==== Proof.RetRef.lean ====
/- The retention reference's new state, read at an index. -/
module

public import proofs.«01_k».proof.Proof.Gen.Reference2Ideal.Run
public import proofs.«01_k».proof.Proof.RetSpec

@[expose] public section

set_option maxRecDepth 16384
set_option maxHeartbeats 1000000

noncomputable section

namespace Cert.Reference2Ideal.Ret

open Idealize.ShloMosaic Idealize.ShloMosaic.TcCoe
open Cert.Ret Cert.Reference2Ideal Cert.Reference2Ideal.Gen
open scoped BigOperators

/-- The reference's new state, of the keys, the values and the old state. -/
def stR (k : FVec Ideal S32x8x8x64 .f32) (v : FVec Ideal S32x8x8x128 .f32) (s : FVec Ideal S1x32x8x64x128 .f32) : FVec Ideal S32x4x128x128 .f32 :=
  shapeCast S32x4x128x128 (addf (mulf (shapeCast S32x8x64x128 s shapeCasts_S1x32x8x64x128_S32x8x64x128) (broadcastInDim S32x8x64x128 ![0, 1, 2, 3] bcast_S1x8x1x1_S32x8x64x128_0_1_2_3 (broadcastInDim S1x8x1x1 ![1] bcast_S8_S1x8x1x1_1 (Host.exp (mulf (broadcastInDim S8 ![] bcast_S_S8 (constant S_ .f32 0x41000000#32)) (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0))))))))))) (Host.dotGeneral dot_S32x8x8x64_S32x8x8x128_S32x8x64x128_1_1_3_3_02_02 none (mulf (mulf k (broadcastInDim S32x8x8x64 ![] bcast_S_S32x8x8x64 (constant S_ .f32 0x3E000000#32))) (broadcastInDim S32x8x8x64 ![0, 1, 2, 3] bcast_S1x8x8x1_S32x8x8x64_0_1_2_3 (broadcastInDim S1x8x8x1 ![1, 2] bcast_S8x8_S1x8x8x1_1_2 (Host.exp (mulf (broadcastInDim S8x8 ![0, 1] bcast_S8x1_S8x8_0_1 (broadcastInDim S8x1 ![0] bcast_S8_S8x1_0 (subf (broadcastInDim S8 ![] bcast_S_S8 (constant S_ .f32 0x40E00000#32)) (sitofp .f32 (iotaInDim S8 32 0))))) (broadcastInDim S8x8 ![0, 1] bcast_S1x8_S8x8_0_1 (broadcastInDim S1x8 ![1] bcast_S8_S1x8_1 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0))))))))))))) v)) shapeCasts_S32x8x64x128_S32x4x128x128

theorem stR_ap (k : FVec Ideal S32x8x8x64 .f32) (v : FVec Ideal S32x8x8x128 .f32) (s : FVec Ideal S1x32x8x64x128 .f32)
    (b : Fin 32) (p : Fin 4) (l c : Fin 128) :
    stR k v s (ix4 b p l c) = s (ix5 0 b ⟨p.val * 2 + l.val / 64, by omega⟩ ⟨l.val % 64, by omega⟩ c) * sdec (p.val * 2 + l.val / 64)
      + ∑ x : Fin 8, k (ix4 b x ⟨p.val * 2 + l.val / 64, by omega⟩ ⟨l.val % 64, by omega⟩) * ks * kdec (p.val * 2 + l.val / 64) x.val
          * v (ix4 b x ⟨p.val * 2 + l.val / 64, by omega⟩ c) := by
  pointwise [stR, sdec, kdec, ks, lg]

end Cert.Reference2Ideal.Ret

end
-- ==== Proof.RetBlk.lean ====
/- The retention call's new state is the reference's. -/
module

public import proofs.«01_k».proof.Proof.RetKer
public import proofs.«01_k».proof.Proof.RetHost
public import proofs.«01_k».proof.Proof.RetRef

@[expose] public section

set_option maxRecDepth 16384
set_option maxHeartbeats 1000000

noncomputable section

namespace Cert.Kernel2Ideal.Ret

open Idealize.ShloMosaic Idealize.ShloMosaic.TcCoe Idealize.ShloMosaic.Pipeline
open Cert.Ret Cert.Kernel2Ideal Cert.Kernel2Ideal.Gen
open scoped BigOperators

variable (m : (ℓ : Loc nD τ sig) → Buf (Elt Ideal) ℓ) (c : Dev nD) (t : Fin cfg0.N)

theorem pt_lt : t.val < 32 := t.isLt

theorem idx1 : ∀ t : Fin grid0.N, cc0_transform_1 (grid0.coords t) = ![t.val, 0] := by decide +kernel
theorem ib1 (j : Fin 128) (l : Fin 512) : (iblk m c 1 t : FVec Ideal S128x512 .bf16) (ix2 j l) = kT (m (c, main_arg1)) (ix2 ⟨t.val * 128 + j.val, by have := pt_lt t; omega⟩ l) := by
  show V m c (Pipeline.arrRef spec0 1) (((cfg0.win 1).rect t).emb (ix2 j l)) = _
  refine (congrFun (V_k m c) _).trans ?_
  refine congrArg (kT (m (c, main_arg1))) (funext fun a => Fin.ext ?_)
  refine ((cfg0.win 1).rect_emb_val t _ a rfl).trans ?_
  rw [show (cfg0.win 1).index t = _ from idx1 t]
  match a with
  | ⟨0, _⟩ => show t.val * 128 + j.val = t.val * 128 + j.val; rfl
  | ⟨1, _⟩ => show 0 * 512 + l.val = l.val; omega

theorem idx2 : ∀ t : Fin grid0.N, cc0_transform_2 (grid0.coords t) = ![t.val, 0] := by decide +kernel
theorem ib2 (j : Fin 128) (l : Fin 1024) : (iblk m c 2 t : FVec Ideal S128x1024 .bf16) (ix2 j l) = vT (m (c, main_arg2)) (ix2 ⟨t.val * 128 + j.val, by have := pt_lt t; omega⟩ l) := by
  show V m c (Pipeline.arrRef spec0 2) (((cfg0.win 2).rect t).emb (ix2 j l)) = _
  refine (congrFun (V_v m c) _).trans ?_
  refine congrArg (vT (m (c, main_arg2))) (funext fun a => Fin.ext ?_)
  refine ((cfg0.win 2).rect_emb_val t _ a rfl).trans ?_
  rw [show (cfg0.win 2).index t = _ from idx2 t]
  match a with
  | ⟨0, _⟩ => show t.val * 128 + j.val = t.val * 128 + j.val; rfl
  | ⟨1, _⟩ => show 0 * 1024 + l.val = l.val; omega

theorem idx6 : ∀ t : Fin grid0.N, cc0_transform_6 (grid0.coords t) = ![0, 0] := by decide +kernel
theorem ib6 (j : Fin 128) (l : Fin 512) : (iblk m c 6 t : FVec Ideal S128x512 .f32) (ix2 j l) = kdT (ix2 j l) := by
  show V m c (Pipeline.arrRef spec0 6) (((cfg0.win 6).rect t).emb (ix2 j l)) = _
  refine (congrFun (V_kd m c) _).trans ?_
  refine congrArg (kdT) (funext fun a => Fin.ext ?_)
  refine ((cfg0.win 6).rect_emb_val t _ a rfl).trans ?_
  rw [show (cfg0.win 6).index t = _ from idx6 t]
  match a with
  | ⟨0, _⟩ => show 0 * 128 + j.val = j.val; omega
  | ⟨1, _⟩ => show 0 * 512 + l.val = l.val; omega

theorem idx7 : ∀ t : Fin grid0.N, cc0_transform_7 (grid0.coords t) = ![0, 0, 0] := by decide +kernel
theorem ib7 (p : Fin 4) (l k : Fin 128) : (iblk m c 7 t : FVec Ideal S4x128x128 .f32) (ix3 p l k) = gT (ix3 p l k) := by
  show V m c (Pipeline.arrRef spec0 7) (((cfg0.win 7).rect t).emb (ix3 p l k)) = _
  refine (congrFun (V_g m c) _).trans ?_
  refine congrArg (gT) (funext fun a => Fin.ext ?_)
  refine ((cfg0.win 7).rect_emb_val t _ a rfl).trans ?_
  rw [show (cfg0.win 7).index t = _ from idx7 t]
  match a with
  | ⟨0, _⟩ => show 0 * 4 + p.val = p.val; omega
  | ⟨1, _⟩ => show 0 * 128 + l.val = l.val; omega
  | ⟨2, _⟩ => show 0 * 128 + k.val = k.val; omega

theorem idx8 : ∀ t : Fin grid0.N, cc0_transform_8 (grid0.coords t) = ![t.val, 0, 0, 0] := by decide +kernel
theorem ib8 (p : Fin 4) (l k : Fin 128) : (iblk m c 8 t : FVec Ideal S1x4x128x128 .f32) (ix4 0 p l k) = sT (m (c, main_arg4)) (ix4 ⟨t.val, pt_lt t⟩ p l k) := by
  show V m c (Pipeline.arrRef spec0 8) (((cfg0.win 8).rect t).emb (ix4 0 p l k)) = _
  refine (congrFun (V_s m c) _).trans ?_
  refine congrArg (sT (m (c, main_arg4))) (funext fun a => Fin.ext ?_)
  refine ((cfg0.win 8).rect_emb_val t _ a rfl).trans ?_
  rw [show (cfg0.win 8).index t = _ from idx8 t]
  match a with
  | ⟨0, _⟩ => show t.val * 1 + 0 = t.val; omega
  | ⟨1, _⟩ => show 0 * 4 + p.val = p.val; omega
  | ⟨2, _⟩ => show 0 * 128 + l.val = l.val; omega
  | ⟨3, _⟩ => show 0 * 128 + k.val = k.val; omega

/-- A block of the new state, of blocks of the padded rows, is the reference's. -/
theorem blk_eq (x1 : FVec Ideal S128x512 .bf16) (x2 : FVec Ideal S128x1024 .bf16) (x6 : FVec Ideal S128x512 .f32) (x7 : FVec Ideal S4x128x128 .f32)
    (x8 : FVec Ideal S1x4x128x128 .f32) (key : FVec Ideal S32x8x8x64 .f32) (v : FVec Ideal S32x8x8x128 .f32) (s : FVec Ideal S1x32x8x64x128 .f32) (b : Fin 32)
    (h1 : ∀ (j : Fin 128) (l : Fin 512), x1 (ix2 j l) = kT key (ix2 ⟨b.val * 128 + j.val, by omega⟩ l))
    (h2 : ∀ (j : Fin 128) (l : Fin 1024), x2 (ix2 j l) = vT v (ix2 ⟨b.val * 128 + j.val, by omega⟩ l))
    (h6 : ∀ (j : Fin 128) (l : Fin 512), x6 (ix2 j l) = kdT (ix2 j l))
    (h7 : ∀ (p : Fin 4) (l k : Fin 128), x7 (ix3 p l k) = gT (ix3 p l k))
    (h8 : ∀ (p : Fin 4) (l k : Fin 128), x8 (ix4 0 p l k) = sT s (ix4 b p l k))
    (p : Fin 4) (l k : Fin 128) : stBlk x1 x2 x6 x7 x8 p l k = Cert.Reference2Ideal.Ret.stR key v s (ix4 b p l k) := by
  rw [Cert.Reference2Ideal.Ret.stR_ap]
  unfold stBlk
  rw [h8, h7, sT_ap, gT_ap]
  refine congrArg (HAdd.hAdd (α := EReal) (β := EReal) (γ := EReal) _) ?_
  refine (Fin.sum_univ_add (a := 8) (b := 120) (fun j : Fin 128 => x1 (ix2 j ⟨p.val * 128 + l.val, by omega⟩)
    * x6 (ix2 j ⟨p.val * 128 + l.val, by omega⟩) * x2 (ix2 j ⟨(p.val * 2 + l.val / 64) * 128 + k.val, by omega⟩))).trans ?_
  have hz : ∀ x : Fin 120, x1 (ix2 (Fin.natAdd 8 x) ⟨p.val * 128 + l.val, by omega⟩) = 0 := fun x => by
    have hx := x.isLt
    rw [h1, kT_ap, dif_neg]
    show ¬ (b.val * 128 + (8 + x.val)) % 128 < 8
    omega
  have hs : ∑ x : Fin 120, x1 (ix2 (Fin.natAdd 8 x) ⟨p.val * 128 + l.val, by omega⟩) * x6 (ix2 (Fin.natAdd 8 x) ⟨p.val * 128 + l.val, by omega⟩)
      * x2 (ix2 (Fin.natAdd 8 x) ⟨(p.val * 2 + l.val / 64) * 128 + k.val, by omega⟩) = (0 : EReal) :=
    Finset.sum_eq_zero fun x _ => by rw [hz, zero_mul, zero_mul]
  refine (congrArg (HAdd.hAdd (α := EReal) (β := EReal) (γ := EReal) _) hs).trans ((add_zero _).trans ?_)
  refine Finset.sum_congr rfl fun x _ => ?_
  have hx := x.isLt
  have hr : (b.val * 128 + x.val) % 128 < 8 := by omega
  have hq : (b.val * 128 + x.val) / 128 = b.val := by omega
  have hm : (b.val * 128 + x.val) % 128 = x.val := by omega
  have e1 : (p.val * 128 + l.val) / 64 = p.val * 2 + l.val / 64 := by omega
  have e2 : (p.val * 128 + l.val) % 64 = l.val % 64 := by omega
  have e3 : ((p.val * 2 + l.val / 64) * 128 + k.val) / 128 = p.val * 2 + l.val / 64 := by omega
  have e4 : ((p.val * 2 + l.val / 64) * 128 + k.val) % 128 = k.val := by omega
  rw [h1, h6, h2, kT_ap, kdT_ap, vT_ap, dif_pos (show (b.val * 128 + (Fin.castAdd 120 x).val) % 128 < 8 from hr), dif_pos (show (b.val * 128 + (Fin.castAdd 120 x).val) % 128 < 8 from hr)]
  simp only [Fin.val_castAdd, hq, hm, e1, e2, e3, e4, Fin.eta]

/-- A block of the new state is the reference's. -/
theorem st_ap (p : Fin 4) (l k : Fin 128) : ((outsAt0 m c t).2 : FVec Ideal S1x4x128x128 .f32) (ix4 0 p l k)
    = Cert.Reference2Ideal.Ret.stR (m (c, main_arg1)) (m (c, main_arg2)) (m (c, main_arg4)) (ix4 ⟨t.val, pt_lt t⟩ p l k) :=
  (out_eq m c t p l k).trans
    (blk_eq (iblk m c 1 t) (iblk m c 2 t) (iblk m c 6 t) (iblk m c 7 t) (iblk m c 8 t) (m (c, main_arg1)) (m (c, main_arg2)) (m (c, main_arg4)) ⟨t.val, pt_lt t⟩
      (ib1 m c t) (ib2 m c t) (ib6 m c t) (ib7 m c t) (ib8 m c t) p l k)

theorem idx10 : ∀ t : Fin grid0.N, cc0_transform_10 (grid0.coords t) = ![t.val, 0, 0, 0] := by decide +kernel

/-- The call leaves the reference's new state in its second result. -/
theorem arr10 : (dats m 0 c).arrAt 10 cfg0.N = Cert.Reference2Ideal.Ret.stR (m (c, main_arg1)) (m (c, main_arg2)) (m (c, main_arg4)) := by
  refine (dats m 0 c).arrAt_eq_of_covers 10 _ (by decide +kernel) fun t hf y => ?_
  refine Eq.trans (b := ((outsAt0 m c t).2 : FVec Ideal S1x4x128x128 .f32) y) (congrFun (after0_10 m c t) y) ?_
  obtain ⟨a, p, l, k, rfl⟩ : ∃ (a : Fin 1) (p : Fin 4) (l k : Fin 128), y = ix4 a p l k :=
    ⟨y 0, y 1, y 2, y 3, by funext i; match i with | ⟨0, _⟩ => rfl | ⟨1, _⟩ => rfl | ⟨2, _⟩ => rfl | ⟨3, _⟩ => rfl⟩
  obtain rfl : a = 0 := Subsingleton.elim _ _
  refine (st_ap m c t p l k).trans ?_
  refine congrArg (Cert.Reference2Ideal.Ret.stR (m (c, main_arg1)) (m (c, main_arg2)) (m (c, main_arg4))) (funext fun a => Fin.ext ?_)
  refine Eq.trans ?_ ((cfg0.win 10).rect_emb_val t _ a rfl).symm
  rw [show (cfg0.win 10).index t = _ from idx10 t]
  match a with
  | ⟨0, _⟩ => show t.val = t.val * 1 + 0; omega
  | ⟨1, _⟩ => show p.val = 0 * 4 + p.val; omega
  | ⟨2, _⟩ => show l.val = 0 * 128 + l.val; omega
  | ⟨3, _⟩ => show k.val = 0 * 128 + k.val; omega

end Cert.Kernel2Ideal.Ret

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_pend_in_blocks
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Frames
public import proofs.«01_k».proof.Proof.KerBlk
public import proofs.«01_k».proof.Proof.RetBlk
public import proofs.«01_k».proof.Proof.Bits.Frames
public import Idealize.ShloMosaic.Adequacy
public import Idealize.ShloMosaic.Init

@[expose] public section

noncomputable section

namespace Cert.Proof

open Idealize.ShloMosaic Idealize.ShloMosaic.TcCoe Idealize.SL.Sem

/-- The kernel's own frame, at the bit patterns. -/
theorem frame_kernel : Cert.quiescent_Kernel := fun m ρ h => by
  obtain ⟨s, hp⟩ := Cert.Kernel.Moe.decode _ _ _ _ _ _ (h 0)
  exact (θ_run Cert.Kernel.defs _ _).mono (fun _ h => ⟨fun c => (h.1 c).2, h.2⟩)
    (Cert.Kernel.Moe.run_all (F := Bits) m ρ (Cert.Kernel.Moe.ok m s hp) (Cert.Kernel.Moe.sched m s hp))

/-- The same program's frame at the extended reals. -/
theorem frame_ideal : Cert.quiescent_KernelIdeal := fun m ρ h => by
  obtain ⟨s, hp⟩ := Cert.KernelIdeal.Moe.decode _ _ _ _ _ _ (h 0)
  exact (θ_run Cert.KernelIdeal.defs _ _).mono (fun _ h => ⟨fun c => (h.1 c).2, h.2⟩)
    (Cert.KernelIdeal.Moe.run_all (F := Ideal) m ρ (Cert.KernelIdeal.Moe.ok m s hp) (Cert.KernelIdeal.Moe.sched m s hp))

/-- The reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem algebraic : Cert.algebraic_KernelIdeal_ReferenceIdeal := fun m g m' g' h hargs => by
  obtain ⟨s, hp⟩ := Cert.KernelIdeal.Moe.decode _ _ _ _ _ _ (h 0)
  refine ⟨fun c => Cert.KernelIdeal.Moe.refOf m c, ?_, ?_⟩
  · exact (θ_run Cert.KernelIdeal.defs _ _).mono
      (fun _ h c => ⟨(h.1 c).1.trans (Cert.KernelIdeal.Moe.arrAt_ref m s hp (Cert.KernelIdeal.Moe.ok m s hp) c), (h.1 c).2⟩)
      (Cert.KernelIdeal.Moe.run_all (F := Ideal) m g (Cert.KernelIdeal.Moe.ok m s hp) (Cert.KernelIdeal.Moe.sched m s hp))
  · refine (θ_run Cert.ReferenceIdeal.defs _ _).mono (fun _ h c => ⟨(h c).1.trans ?_, (h c).2⟩) (Cert.ReferenceIdeal.Value.run (F := Ideal) m' g')
    obtain ⟨h0, h1, h2, h3, h4, h5⟩ := hargs c
    rw [Cert.ReferenceIdeal.Moe.res_eq, h0, h1, h2, h3, h4, h5]

/-- The retention call's frame, at the bit patterns. -/
theorem frame_kernel2 : Cert.quiescent_Kernel2 := fun m ρ _ => Cert.Kernel2.Gen.frame m ρ

/-- The same call's frame at the extended reals. -/
theorem frame_ideal2 : Cert.quiescent_Kernel2Ideal := fun m ρ _ => Cert.Kernel2Ideal.Gen.frame m ρ

/-- The frame of the retention's reference. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The retention call's new state is the reference's. -/
theorem algebraic2 : Cert.algebraic_Kernel2Ideal_Reference2Ideal := fun m g m' g' _ hargs => by
  refine ⟨fun c => Cert.Reference2Ideal.Ret.stR (m (c, Cert.Kernel2Ideal.main_arg1)) (m (c, Cert.Kernel2Ideal.main_arg2)) (m (c, Cert.Kernel2Ideal.main_arg4)), ?_, ?_⟩
  · exact (θ_run Cert.Kernel2Ideal.defs _ _).mono (fun _ h c => ⟨(h c).2.1.trans (Cert.Kernel2Ideal.Ret.arr10 m c), (h c).2.2⟩)
      (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    obtain ⟨h0, h1, h2, h3, h4⟩ := hargs c
    rw [h1, h2, h4]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_pend_in_blocks.Gen.facts,
  frame_kernel, frame_ideal, frame_ref, fun m ρ _ => frame_ref m ρ trivial, frame_kernel2, frame_ideal2, frame_ref2,
  trivial, algebraic, trivial, algebraic2⟩

end Cert.Proof

end
